-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x2048x1024 : Shape := ⟨3, ![4, 2048, 1024]⟩
abbrev S1024x16x64 : Shape := ⟨3, ![1024, 16, 64]⟩
abbrev S16x64 : Shape := ⟨2, ![16, 64]⟩
abbrev S16x64x1024 : Shape := ⟨3, ![16, 64, 1024]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S_ : Shape := ⟨0, ![]⟩

class Facts : Prop where
  bcast_S_S4x2048x1024 : S_.BroadcastsInDim S4x2048x1024 (![] : Fin 0 → Fin S4x2048x1024.rank)
  bcast_S_S1024x16x64 : S_.BroadcastsInDim S1024x16x64 (![] : Fin 0 → Fin S1024x16x64.rank)
  bcast_S_S16x64 : S_.BroadcastsInDim S16x64 (![] : Fin 0 → Fin S16x64.rank)
  bcast_S_S16x64x1024 : S_.BroadcastsInDim S16x64x1024 (![] : Fin 0 → Fin S16x64x1024.rank)

variable [Facts]

def fn_part1 {F : FTy → Type} [FloatOps F] (main_arg9 : FVec F S16x64x1024 .f32) (main_v2 : IVec S4x2048x1024 1) (main_v5 : IVec S4x2048x1024 1) (main_v8 : IVec S1024x16x64 1) (main_v11 : IVec S16x64 1) (main_v14 : IVec S1024x16x64 1) (main_v17 : IVec S16x64 1) : IVec S4x2048x1024 1 × IVec S4x2048x1024 1 × IVec S1024x16x64 1 × IVec S16x64 1 × IVec S1024x16x64 1 × IVec S16x64 1 × IVec S16x64x1024 1 :=
  let main_v18 : FVec F S16x64x1024 .f32 := Host.absf main_arg9
  let main_cst_5 : FVec F S_ .f32 := constant S_ .f32 0x7F800000#32
  let main_v19 : FVec F S16x64x1024 .f32 := broadcastInDim S16x64x1024 ![] bcast_S_S16x64x1024 main_cst_5
  let main_v20 : IVec S16x64x1024 1 := cmpf .olt main_v18 main_v19
  (main_v2, main_v5, main_v8, main_v11, main_v14, main_v17, main_v20)

def fn {F : FTy → Type} [FloatOps F] (main_arg0 : FVec F S4x2048x1024 .f32) (main_arg1 : FVec F S4x2048x1024 .f32) (main_arg2 : FVec F S4x2048x1024 .f32) (main_arg3 : FVec F S1024x16x64 .f32) (main_arg4 : FVec F S16x64 .f32) (main_arg5 : FVec F S1024x16x64 .f32) (main_arg6 : FVec F S16x64 .f32) (main_arg7 : FVec F S1024x16x64 .f32) (main_arg8 : FVec F S16x64 .f32) (main_arg9 : FVec F S16x64x1024 .f32) (main_arg10 : FVec F S1024 .f32) (main_arg11 : FVec F S1024 .f32) (main_arg12 : FVec F S1024 .f32) (main_arg13 : FVec F S1024x4096 .f32) (main_arg14 : FVec F S4096 .f32) (main_arg15 : FVec F S4096x1024 .f32) (main_arg16 : FVec F S1024 .f32) (main_arg17 : FVec F S1024 .f32) (main_arg18 : FVec F S1024 .f32) : IVec S4x2048x1024 1 × IVec S4x2048x1024 1 × IVec S1024x16x64 1 × IVec S16x64 1 × IVec S1024x16x64 1 × IVec S16x64 1 × IVec S16x64x1024 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_v3 : FVec F S4x2048x1024 .f32 := Host.absf main_arg1
  let main_cst_0 : FVec F S_ .f32 := constant S_ .f32 0x7F800000#32
  let main_v4 : FVec F S4x2048x1024 .f32 := broadcastInDim S4x2048x1024 ![] bcast_S_S4x2048x1024 main_cst_0
  let main_v5 : IVec S4x2048x1024 1 := cmpf .olt main_v3 main_v4
  let main_v6 : FVec F S1024x16x64 .f32 := Host.absf main_arg3
  let main_cst_1 : FVec F S_ .f32 := constant S_ .f32 0x7F800000#32
  let main_v7 : FVec F S1024x16x64 .f32 := broadcastInDim S1024x16x64 ![] bcast_S_S1024x16x64 main_cst_1
  let main_v8 : IVec S1024x16x64 1 := cmpf .olt main_v6 main_v7
  let main_v9 : FVec F S16x64 .f32 := Host.absf main_arg4
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_v12 : FVec F S1024x16x64 .f32 := Host.absf main_arg5
  let main_cst_3 : FVec F S_ .f32 := constant S_ .f32 0x7F800000#32
  let main_v13 : FVec F S1024x16x64 .f32 := broadcastInDim S1024x16x64 ![] bcast_S_S1024x16x64 main_cst_3
  let main_v14 : IVec S1024x16x64 1 := cmpf .olt main_v12 main_v13
  let main_v15 : FVec F S16x64 .f32 := Host.absf main_arg6
  let main_cst_4 : FVec F S_ .f32 := constant S_ .f32 0x7F800000#32
  let main_v16 : FVec F S16x64 .f32 := broadcastInDim S16x64 ![] bcast_S_S16x64 main_cst_4
  let main_v17 : IVec S16x64 1 := cmpf .olt main_v15 main_v16
  fn_part1 (F := F) main_arg9 main_v2 main_v5 main_v8 main_v11 main_v14 main_v17
-- ==== Kernel.lean ====
abbrev S4x2048x1024 : Shape := ⟨3, ![4, 2048, 1024]⟩
abbrev S1024x16x64 : Shape := ⟨3, ![1024, 16, 64]⟩
abbrev S16x64 : Shape := ⟨2, ![16, 64]⟩
abbrev S16x64x1024 : Shape := ⟨3, ![16, 64, 1024]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S8192x1024 : Shape := ⟨2, ![8192, 1024]⟩
abbrev S1024x1024 : Shape := ⟨2, ![1024, 1024]⟩
abbrev S1x1024 : Shape := ⟨2, ![1, 1024]⟩
abbrev S64x2048 : Shape := ⟨2, ![64, 2048]⟩
abbrev S1x2048x1024 : Shape := ⟨3, ![1, 2048, 1024]⟩
abbrev S16x2048 : Shape := ⟨2, ![16, 2048]⟩
abbrev S2048x1024 : Shape := ⟨2, ![2048, 1024]⟩
abbrev S1x1x1024 : Shape := ⟨3, ![1, 1, 1024]⟩
abbrev S32x1024 : Shape := ⟨2, ![32, 1024]⟩
abbrev S512x1024 : Shape := ⟨2, ![512, 1024]⟩
abbrev S512x2048 : Shape := ⟨2, ![512, 2048]⟩
abbrev S16x32x2048 : Shape := ⟨3, ![16, 32, 2048]⟩
abbrev S64x32 : Shape := ⟨2, ![64, 32]⟩
abbrev S64 : Shape := ⟨1, ![64]⟩
abbrev S64x1 : Shape := ⟨2, ![64, 1]⟩
abbrev S4x1x512 : Shape := ⟨3, ![4, 1, 512]⟩
abbrev S4x512x1024 : Shape := ⟨3, ![4, 512, 1024]⟩
abbrev S4x1x1024 : Shape := ⟨3, ![4, 1, 1024]⟩
abbrev S1x1x512 : Shape := ⟨3, ![1, 1, 512]⟩
abbrev S1x512x1024 : Shape := ⟨3, ![1, 512, 1024]⟩
abbrev S1x512 : Shape := ⟨2, ![1, 512]⟩
abbrev S2048x1 : Shape := ⟨2, ![2048, 1]⟩
abbrev S2048x512 : Shape := ⟨2, ![2048, 512]⟩
abbrev S512 : Shape := ⟨1, ![512]⟩
abbrev S512x1 : Shape := ⟨2, ![512, 1]⟩
abbrev S1x4096 : Shape := ⟨2, ![1, 4096]⟩
abbrev S512x512 : Shape := ⟨2, ![512, 512]⟩
abbrev S512x4096 : Shape := ⟨2, ![512, 4096]⟩

abbrev nBuf : Space → Nat
  | .hbm => 55
  | .vmem => 58
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x16x64, .f32⟩
  | .hbm, ⟨4, _⟩ => ⟨S16x64, .f32⟩
  | .hbm, ⟨5, _⟩ => ⟨S1024x16x64, .f32⟩
  | .hbm, ⟨6, _⟩ => ⟨S16x64, .f32⟩
  | .hbm, ⟨7, _⟩ => ⟨S1024x16x64, .f32⟩
  | .hbm, ⟨8, _⟩ => ⟨S16x64, .f32⟩
  | .hbm, ⟨9, _⟩ => ⟨S16x64x1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024x4096, .f32⟩
  | .hbm, ⟨14, _⟩ => ⟨S4096, .f32⟩
  | .hbm, ⟨15, _⟩ => ⟨S4096x1024, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S1024x1024, .f32⟩
  | .hbm, ⟨23, _⟩ => ⟨S1024x1024, .bf16⟩
  | .hbm, ⟨24, _⟩ => ⟨S1x1024, .f32⟩
  | .hbm, ⟨25, _⟩ => ⟨S1024x1024, .f32⟩
  | .hbm, ⟨26, _⟩ => ⟨S1024x1024, .bf16⟩
  | .hbm, ⟨27, _⟩ => ⟨S1x1024, .f32⟩
  | .hbm, ⟨28, _⟩ => ⟨S1024x1024, .f32⟩
  | .hbm, ⟨29, _⟩ => ⟨S1024x1024, .bf16⟩
  | .hbm, ⟨30, _⟩ => ⟨S1x1024, .f32⟩
  | .hbm, ⟨31, _⟩ => ⟨S8192x1024, .bf16⟩
  | .hbm, ⟨32, _⟩ => ⟨S8192x1024, .bf16⟩
  | .hbm, ⟨33, _⟩ => ⟨S8192x1024, .bf16⟩
  | .hbm, ⟨34, _⟩ => ⟨S4x2048x1024, .bf16⟩
  | .hbm, ⟨35, _⟩ => ⟨S4x2048x1024, .bf16⟩
  | .hbm, ⟨36, _⟩ => ⟨S4x2048x1024, .bf16⟩
  | .hbm, ⟨37, _⟩ => ⟨S64x2048, .f32⟩
  | .hbm, ⟨38, _⟩ => ⟨S64x32, .i32⟩
  | .hbm, ⟨39, _⟩ => ⟨S4x1x512, .i32⟩
  | .hbm, ⟨40, _⟩ => ⟨S1024x1024, .f32⟩
  | .hbm, ⟨41, _⟩ => ⟨S1024x1024, .bf16⟩
  | .hbm, ⟨42, _⟩ => ⟨S1x1024, .f32⟩
  | .hbm, ⟨43, _⟩ => ⟨S4x512x1024, .bf16⟩
  | .hbm, ⟨44, _⟩ => ⟨S4x1x1024, .f32⟩
  | .hbm, ⟨45, _⟩ => ⟨S1x1024, .f32⟩
  | .hbm, ⟨46, _⟩ => ⟨S1x1024, .f32⟩
  | .hbm, ⟨47, _⟩ => ⟨S1024x4096, .bf16⟩
  | .hbm, ⟨48, _⟩ => ⟨S1x4096, .f32⟩
  | .hbm, ⟨49, _⟩ => ⟨S4096x1024, .bf16⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S8192x1024, .f32⟩
  | .hbm, ⟨54, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1x2048x1024, .bf16⟩
  | .local _ .vmem, ⟨19, _⟩ => ⟨S1x2048x1024, .bf16⟩
  | .local _ .vmem, ⟨20, _⟩ => ⟨S1x2048x1024, .bf16⟩
  | .local _ .vmem, ⟨21, _⟩ => ⟨S1x2048x1024, .bf16⟩
  | .local _ .vmem, ⟨22, _⟩ => ⟨S16x2048, .f32⟩
  | .local _ .vmem, ⟨23, _⟩ => ⟨S16x2048, .f32⟩
  | .local _ .vmem, ⟨24, _⟩ => ⟨S64x2048, .f32⟩
  | .local _ .vmem, ⟨25, _⟩ => ⟨S64x32, .i32⟩
  | .local _ .vmem, ⟨26, _⟩ => ⟨S1x1x512, .i32⟩
  | .local _ .vmem, ⟨27, _⟩ => ⟨S1x1x512, .i32⟩
  | .local _ .vmem, ⟨28, _⟩ => ⟨S1x2048x1024, .bf16⟩
  | .local _ .vmem, ⟨29, _⟩ => ⟨S1x2048x1024, .bf16⟩
  | .local _ .vmem, ⟨30, _⟩ => ⟨S1x2048x1024, .bf16⟩
  | .local _ .vmem, ⟨31, _⟩ => ⟨S1x2048x1024, .bf16⟩
  | .local _ .vmem, ⟨32, _⟩ => ⟨S1x2048x1024, .bf16⟩
  | .local _ .vmem, ⟨33, _⟩ => ⟨S1x2048x1024, .bf16⟩
  | .local _ .vmem, ⟨34, _⟩ => ⟨S1024x1024, .bf16⟩
  | .local _ .vmem, ⟨35, _⟩ => ⟨S1x1024, .f32⟩
  | .local _ .vmem, ⟨36, _⟩ => ⟨S1x512x1024, .bf16⟩
  | .local _ .vmem, ⟨37, _⟩ => ⟨S1x512x1024, .bf16⟩
  | .local _ .vmem, ⟨38, _⟩ => ⟨S1x1x1024, .f32⟩
  | .local _ .vmem, ⟨39, _⟩ => ⟨S1x1x1024, .f32⟩
  | .local _ .vmem, ⟨40, _⟩ => ⟨S512x1024, .f32⟩
  | .local _ .vmem, ⟨41, _⟩ => ⟨S512x1024, .f32⟩
  | .local _ .vmem, ⟨42, _⟩ => ⟨S1x1x512, .i32⟩
  | .local _ .vmem, ⟨43, _⟩ => ⟨S1x1x512, .i32⟩
  | .local _ .vmem, ⟨44, _⟩ => ⟨S1x512x1024, .bf16⟩
  | .local _ .vmem, ⟨45, _⟩ => ⟨S1x512x1024, .bf16⟩
  | .local _ .vmem, ⟨46, _⟩ => ⟨S1x1x1024, .f32⟩
  | .local _ .vmem, ⟨47, _⟩ => ⟨S1x1x1024, .f32⟩
  | .local _ .vmem, ⟨48, _⟩ => ⟨S1x1024, .f32⟩
  | .local _ .vmem, ⟨49, _⟩ => ⟨S1x1024, .f32⟩
  | .local _ .vmem, ⟨50, _⟩ => ⟨S1024x4096, .bf16⟩
  | .local _ .vmem, ⟨51, _⟩ => ⟨S1x4096, .f32⟩
  | .local _ .vmem, ⟨52, _⟩ => ⟨S4096x1024, .bf16⟩
  | .local _ .vmem, ⟨53, _⟩ => ⟨S1x1024, .f32⟩
  | .local _ .vmem, ⟨54, _⟩ => ⟨S1x1024, .f32⟩
  | .local _ .vmem, ⟨55, _⟩ => ⟨S1x1024, .f32⟩
  | .local _ .vmem, ⟨56, _⟩ => ⟨S512x1024, .f32⟩
  | .local _ .vmem, ⟨57, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12_0 : Ref sig .tc := ⟨.hbm, 31, rfl⟩
abbrev main_v12_1 : Ref sig .tc := ⟨.hbm, 32, rfl⟩
abbrev main_v12_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22_0 : Ref sig .tc := ⟨.hbm, 43, rfl⟩
abbrev main_v22_1 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc2_stg0_0 : Ref sig .tc := ⟨.vmem, 24, rfl⟩
abbrev cc2_stg1_0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg6_1 : Ref sig .tc := ⟨.vmem, 37, rfl⟩
abbrev cc3_stg7_0 : Ref sig .tc := ⟨.vmem, 38, rfl⟩
abbrev cc3_stg7_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc4_stg3_0 : Ref sig .tc := ⟨.vmem, 46, rfl⟩
abbrev cc4_stg3_1 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg6_0 : Ref sig .tc := ⟨.vmem, 50, rfl⟩
abbrev cc4_stg7_0 : Ref sig .tc := ⟨.vmem, 51, rfl⟩
abbrev cc4_stg8_0 : Ref sig .tc := ⟨.vmem, 52, rfl⟩
abbrev cc4_stg9_0 : Ref sig .tc := ⟨.vmem, 53, rfl⟩
abbrev cc4_stg10_0 : Ref sig .tc := ⟨.vmem, 54, rfl⟩
abbrev cc4_stg11_0 : Ref sig .tc := ⟨.vmem, 55, rfl⟩
abbrev cc4_stg12_0 : Ref sig .tc := ⟨.vmem, 56, rfl⟩
abbrev cc4_stg12_1 : Ref sig .tc := ⟨.vmem, 57, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc2_sem0_0 : DmaSem sig := 24
abbrev cc2_sem1_0 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem3_1 : DmaSem sig := 33
abbrev cc3_sem4_0 : DmaSem sig := 34
abbrev cc3_sem5_0 : DmaSem sig := 35
abbrev cc3_sem6_0 : DmaSem sig := 36
abbrev cc3_sem6_1 : DmaSem sig := 37
abbrev cc3_sem7_0 : DmaSem sig := 38
abbrev cc3_sem7_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem2_1 : DmaSem sig := 45
abbrev cc4_sem3_0 : DmaSem sig := 46
abbrev cc4_sem3_1 : DmaSem sig := 47
abbrev cc4_sem4_0 : DmaSem sig := 48
abbrev cc4_sem5_0 : DmaSem sig := 49
abbrev cc4_sem6_0 : DmaSem sig := 50
abbrev cc4_sem7_0 : DmaSem sig := 51
abbrev cc4_sem8_0 : DmaSem sig := 52
abbrev cc4_sem9_0 : DmaSem sig := 53
abbrev cc4_sem10_0 : DmaSem sig := 54
abbrev cc4_sem11_0 : DmaSem sig := 55
abbrev cc4_sem12_0 : DmaSem sig := 56
abbrev cc4_sem12_1 : DmaSem sig := 57

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S64x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x32 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev grid3 : Pipeline.Grid := ⟨1, ![4], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1x512 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x2048x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x2048x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1024x1024 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1024 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1x512x1024 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x1x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc4_transform_2 (i : grid4.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc4_transform_3 (i : grid4.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x1x512 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x512x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S1x1x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x1024 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1024x4096 .bf16 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x4096 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S4096x1024 .bf16 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x1024 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x1024 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1x1024 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 2 → Memref sig .tc .vmem S512x1024 .f32 := fun | 0 => Memref.whole cc4_stg12_0 | 1 => Memref.whole cc4_stg12_1 | ⟨_ + 2, h⟩ => absurd h (Nat.not_lt.2 (Nat.le_add_left _ _))
abbrev sem4_12 : Fin 2 → DmaSem sig := fun | 0 => cc4_sem12_0 | 1 => cc4_sem12_1 | ⟨_ + 2, h⟩ => absurd h (Nat.not_lt.2 (Nat.le_add_left _ _))
abbrev reads4_12 : Fin grid4.rank → Bool := ![true]
-- ==== ReferenceIdeal.lean ====
abbrev S4x2048x1024 : Shape := ⟨3, ![4, 2048, 1024]⟩
abbrev S1024x16x64 : Shape := ⟨3, ![1024, 16, 64]⟩
abbrev S16x64 : Shape := ⟨2, ![16, 64]⟩
abbrev S16x64x1024 : Shape := ⟨3, ![16, 64, 1024]⟩
abbrev S1024 : Shape := ⟨1, ![1024]⟩
abbrev S1024x4096 : Shape := ⟨2, ![1024, 4096]⟩
abbrev S4096 : Shape := ⟨1, ![4096]⟩
abbrev S4096x1024 : Shape := ⟨2, ![4096, 1024]⟩
abbrev S16x64x4x2048 : Shape := ⟨4, ![16, 64, 4, 2048]⟩
abbrev S4x16x2048x64 : Shape := ⟨4, ![4, 16, 2048, 64]⟩
abbrev S1x16x1x64 : Shape := ⟨4, ![1, 16, 1, 64]⟩
abbrev S4x16x1x64 : Shape := ⟨4, ![4, 16, 1, 64]⟩
abbrev S4x16x16x64 : Shape := ⟨4, ![4, 16, 16, 64]⟩
abbrev S4x16x32x64 : Shape := ⟨4, ![4, 16, 32, 64]⟩
abbrev S4x16x2048x32 : Shape := ⟨4, ![4, 16, 2048, 32]⟩
abbrev S_ : Shape := ⟨0, ![]⟩
abbrev S4x16x2048 : Shape := ⟨3, ![4, 16, 2048]⟩
abbrev S4x16x32 : Shape := ⟨3, ![4, 16, 32]⟩
abbrev S4x16x32x1 : Shape := ⟨4, ![4, 16, 32, 1]⟩
abbrev S4x16x32x2048 : Shape := ⟨4, ![4, 16, 32, 2048]⟩
abbrev S4x16x64 : Shape := ⟨3, ![4, 16, 64]⟩
abbrev S4 : Shape := ⟨1, ![4]⟩
abbrev S4x1x1 : Shape := ⟨3, ![4, 1, 1]⟩
abbrev S16 : Shape := ⟨1, ![16]⟩
abbrev S1x16x1 : Shape := ⟨3, ![1, 16, 1]⟩
abbrev S4x16x32x3 : Shape := ⟨4, ![4, 16, 32, 3]⟩
abbrev S1x1x1024 : Shape := ⟨3, ![1, 1, 1024]⟩
abbrev S4x2048 : Shape := ⟨2, ![4, 2048]⟩
abbrev S4x2048x1 : Shape := ⟨3, ![4, 2048, 1]⟩
abbrev S4x2048x4096 : Shape := ⟨3, ![4, 2048, 4096]⟩
abbrev S1x1x4096 : Shape := ⟨3, ![1, 1, 4096]⟩

abbrev nBuf : Space → Nat
  | .hbm => 231
  | .vmem => 0
  | .smem => 0
  | _ => 0

abbrev hbmTy0_0 (i : Nat) : BufTy := match i % 128 with
  | 0 => ⟨S4x2048x1024, .f32⟩
  | 1 => ⟨S4x2048x1024, .f32⟩
  | 2 => ⟨S4x2048x1024, .f32⟩
  | 3 => ⟨S1024x16x64, .f32⟩
  | 4 => ⟨S16x64, .f32⟩
  | 5 => ⟨S1024x16x64, .f32⟩
  | 6 => ⟨S16x64, .f32⟩
  | 7 => ⟨S1024x16x64, .f32⟩
  | 8 => ⟨S16x64, .f32⟩
  | 9 => ⟨S16x64x1024, .f32⟩
  | 10 => ⟨S1024, .f32⟩
  | 11 => ⟨S1024, .f32⟩
  | 12 => ⟨S1024, .f32⟩
  | 13 => ⟨S1024x4096, .f32⟩
  | 14 => ⟨S4096, .f32⟩
  | 15 => ⟨S4096x1024, .f32⟩
  | 16 => ⟨S1024, .f32⟩
  | 17 => ⟨S1024, .f32⟩
  | 18 => ⟨S1024, .f32⟩
  | 19 => ⟨S16x64x4x2048, .f32⟩
  | 20 => ⟨S4x16x2048x64, .f32⟩
  | 21 => ⟨S1x16x1x64, .f32⟩
  | 22 => ⟨S4x16x2048x64, .f32⟩
  | 23 => ⟨S4x16x2048x64, .f32⟩
  | 24 => ⟨S16x64x4x2048, .f32⟩
  | 25 => ⟨S4x16x2048x64, .f32⟩
  | 26 => ⟨S1x16x1x64, .f32⟩
  | 27 => ⟨S4x16x2048x64, .f32⟩
  | 28 => ⟨S4x16x2048x64, .f32⟩
  | 29 => ⟨S16x64x4x2048, .f32⟩
  | 30 => ⟨S4x16x2048x64, .f32⟩
  | 31 => ⟨S1x16x1x64, .f32⟩
  | 32 => ⟨S4x16x2048x64, .f32⟩
  | 33 => ⟨S4x16x2048x64, .f32⟩
  | 34 => ⟨S4x16x1x64, .f32⟩
  | 35 => ⟨S4x16x1x64, .f32⟩
  | 36 => ⟨S4x16x1x64, .f32⟩
  | 37 => ⟨S4x16x1x64, .f32⟩
  | 38 => ⟨S4x16x1x64, .f32⟩
  | 39 => ⟨S4x16x1x64, .f32⟩
  | 40 => ⟨S4x16x1x64, .f32⟩
  | 41 => ⟨S4x16x1x64, .f32⟩
  | 42 => ⟨S4x16x1x64, .f32⟩
  | 43 => ⟨S4x16x1x64, .f32⟩
  | 44 => ⟨S4x16x1x64, .f32⟩
  | 45 => ⟨S4x16x1x64, .f32⟩
  | 46 => ⟨S4x16x1x64, .f32⟩
  | 47 => ⟨S4x16x1x64, .f32⟩
  | 48 => ⟨S4x16x1x64, .f32⟩
  | 49 => ⟨S4x16x1x64, .f32⟩
  | 50 => ⟨S4x16x1x64, .f32⟩
  | 51 => ⟨S4x16x1x64, .f32⟩
  | 52 => ⟨S4x16x1x64, .f32⟩
  | 53 => ⟨S4x16x1x64, .f32⟩
  | 54 => ⟨S4x16x1x64, .f32⟩
  | 55 => ⟨S4x16x1x64, .f32⟩
  | 56 => ⟨S4x16x1x64, .f32⟩
  | 57 => ⟨S4x16x1x64, .f32⟩
  | 58 => ⟨S4x16x1x64, .f32⟩
  | 59 => ⟨S4x16x1x64, .f32⟩
  | 60 => ⟨S4x16x1x64, .f32⟩
  | 61 => ⟨S4x16x1x64, .f32⟩
  | 62 => ⟨S4x16x1x64, .f32⟩
  | 63 => ⟨S4x16x1x64, .f32⟩
  | 64 => ⟨S4x16x1x64, .f32⟩
  | 65 => ⟨S4x16x1x64, .f32⟩
  | 66 => ⟨S4x16x16x64, .f32⟩
  | 67 => ⟨S4x16x16x64, .f32⟩
  | 68 => ⟨S4x16x32x64, .f32⟩
  | 69 => ⟨S4x16x2048x32, .f32⟩
  | 70 => ⟨S_, .f32⟩
  | 71 => ⟨S4x16x2048, .f32⟩
  | 72 => ⟨S_, .f32⟩
  | 73 => ⟨S4x16x2048, .f32⟩
  | 74 => ⟨S_, .f32⟩
  | 75 => ⟨S4x16x2048, .f32⟩
  | 76 => ⟨S4x16x2048, .f32⟩
  | 77 => ⟨S4x16x2048, .f32⟩
  | 78 => ⟨S4x16x32, .f32⟩
  | 79 => ⟨S4x16x32, .i32⟩
  | 80 => ⟨S4x16x32x1, .i32⟩
  | 81 => ⟨S_, .i32⟩
  | 82 => ⟨S4x16x32x1, .i32⟩
  | 83 => ⟨S4x16x32x1, .i1⟩
  | 84 => ⟨S_, .i32⟩
  | 85 => ⟨S4x16x32x1, .i32⟩
  | 86 => ⟨S4x16x32x1, .i32⟩
  | 87 => ⟨S4x16x32x1, .i32⟩
  | 88 => ⟨S4x16x32x64, .f32⟩
  | 89 => ⟨S4x16x32x2048, .f32⟩
  | 90 => ⟨S_, .f32⟩
  | 91 => ⟨S4x16x32x2048, .f32⟩
  | 92 => ⟨S4x16x32x2048, .f32⟩
  | 93 => ⟨S_, .f32⟩
  | 94 => ⟨S4x16x32, .f32⟩
  | 95 => ⟨S_, .f32⟩
  | 96 => ⟨S4x16x32, .f32⟩
  | 97 => ⟨S4x16x32, .f32⟩
  | 98 => ⟨S4x16x32x1, .f32⟩
  | 99 => ⟨S4x16x32x2048, .f32⟩
  | 100 => ⟨S4x16x32x2048, .f32⟩
  | 101 => ⟨S4x16x32x2048, .f32⟩
  | 102 => ⟨S_, .f32⟩
  | 103 => ⟨S4x16x32, .f32⟩
  | 104 => ⟨S4x16x32x1, .f32⟩
  | 105 => ⟨S4x16x32x2048, .f32⟩
  | 106 => ⟨S4x16x32x2048, .f32⟩
  | 107 => ⟨S4x16x32x64, .f32⟩
  | 108 => ⟨S_, .f32⟩
  | 109 => ⟨S4x16x64, .f32⟩
  | 110 => ⟨S4x16x1x64, .f32⟩
  | 111 => ⟨S_, .f32⟩
  | 112 => ⟨S4x16x1x64, .f32⟩
  | 113 => ⟨S4x16x1x64, .f32⟩
  | 114 => ⟨S4x16x2048x64, .f32⟩
  | 115 => ⟨S4, .i32⟩
  | 116 => ⟨S4x1x1, .i32⟩
  | 117 => ⟨S16, .i32⟩
  | 118 => ⟨S1x16x1, .i32⟩
  | 119 => ⟨S_, .i32⟩
  | 120 => ⟨S4x1x1, .i32⟩
  | 121 => ⟨S4x1x1, .i1⟩
  | 122 => ⟨S_, .i32⟩
  | 123 => ⟨S4x1x1, .i32⟩
  | 124 => ⟨S4x1x1, .i32⟩
  | 125 => ⟨S4x1x1, .i32⟩
  | 126 => ⟨S_, .i32⟩
  | 127 => ⟨S1x16x1, .i32⟩
  | _ => ⟨S4x2048x1024, .f32⟩

abbrev hbmTy0_1 (i : Nat) : BufTy := match i % 128 with
  | 0 => ⟨S1x16x1, .i1⟩
  | 1 => ⟨S_, .i32⟩
  | 2 => ⟨S1x16x1, .i32⟩
  | 3 => ⟨S1x16x1, .i32⟩
  | 4 => ⟨S1x16x1, .i32⟩
  | 5 => ⟨S_, .i32⟩
  | 6 => ⟨S4x16x32, .i32⟩
  | 7 => ⟨S4x16x32, .i1⟩
  | 8 => ⟨S_, .i32⟩
  | 9 => ⟨S4x16x32, .i32⟩
  | 10 => ⟨S4x16x32, .i32⟩
  | 11 => ⟨S4x16x32, .i32⟩
  | 12 => ⟨S4x16x32, .i32⟩
  | 13 => ⟨S4x16x32, .i32⟩
  | 14 => ⟨S4x16x32x1, .i32⟩
  | 15 => ⟨S4x16x32x1, .i32⟩
  | 16 => ⟨S4x16x32x1, .i32⟩
  | 17 => ⟨S4x16x32x3, .i32⟩
  | 18 => ⟨S4x16x2048x64, .f32⟩
  | 19 => ⟨S4x2048x1024, .f32⟩
  | 20 => ⟨S1x1x1024, .f32⟩
  | 21 => ⟨S4x2048x1024, .f32⟩
  | 22 => ⟨S4x2048x1024, .f32⟩
  | 23 => ⟨S4x2048x1024, .f32⟩
  | 24 => ⟨S_, .f32⟩
  | 25 => ⟨S4x2048, .f32⟩
  | 26 => ⟨S4x2048x1, .f32⟩
  | 27 => ⟨S_, .f32⟩
  | 28 => ⟨S4x2048x1, .f32⟩
  | 29 => ⟨S4x2048x1, .f32⟩
  | 30 => ⟨S4x2048x1024, .f32⟩
  | 31 => ⟨S4x2048x1024, .f32⟩
  | 32 => ⟨S4x2048x1024, .f32⟩
  | 33 => ⟨S4x2048x1024, .f32⟩
  | 34 => ⟨S4x2048x1024, .f32⟩
  | 35 => ⟨S_, .f32⟩
  | 36 => ⟨S4x2048, .f32⟩
  | 37 => ⟨S4x2048x1, .f32⟩
  | 38 => ⟨S_, .f32⟩
  | 39 => ⟨S4x2048x1, .f32⟩
  | 40 => ⟨S4x2048x1, .f32⟩
  | 41 => ⟨S4x2048x1024, .f32⟩
  | 42 => ⟨S4x2048x1024, .f32⟩
  | 43 => ⟨S_, .f32⟩
  | 44 => ⟨S4x2048x1, .f32⟩
  | 45 => ⟨S4x2048x1, .f32⟩
  | 46 => ⟨S4x2048x1, .f32⟩
  | 47 => ⟨S4x2048x1024, .f32⟩
  | 48 => ⟨S4x2048x1024, .f32⟩
  | 49 => ⟨S1x1x1024, .f32⟩
  | 50 => ⟨S4x2048x1024, .f32⟩
  | 51 => ⟨S4x2048x1024, .f32⟩
  | 52 => ⟨S1x1x1024, .f32⟩
  | 53 => ⟨S4x2048x1024, .f32⟩
  | 54 => ⟨S4x2048x1024, .f32⟩
  | 55 => ⟨S4x2048x4096, .f32⟩
  | 56 => ⟨S1x1x4096, .f32⟩
  | 57 => ⟨S4x2048x4096, .f32⟩
  | 58 => ⟨S4x2048x4096, .f32⟩
  | 59 => ⟨S_, .f32⟩
  | 60 => ⟨S4x2048x4096, .f32⟩
  | 61 => ⟨S4x2048x4096, .i1⟩
  | 62 => ⟨S_, .f32⟩
  | 63 => ⟨S4x2048x4096, .f32⟩
  | 64 => ⟨S4x2048x4096, .f32⟩
  | 65 => ⟨S4x2048x4096, .f32⟩
  | 66 => ⟨S4x2048x4096, .f32⟩
  | 67 => ⟨S4x2048x1024, .f32⟩
  | 68 => ⟨S1x1x1024, .f32⟩
  | 69 => ⟨S4x2048x1024, .f32⟩
  | 70 => ⟨S4x2048x1024, .f32⟩
  | 71 => ⟨S4x2048x1024, .f32⟩
  | 72 => ⟨S_, .f32⟩
  | 73 => ⟨S4x2048, .f32⟩
  | 74 => ⟨S4x2048x1, .f32⟩
  | 75 => ⟨S_, .f32⟩
  | 76 => ⟨S4x2048x1, .f32⟩
  | 77 => ⟨S4x2048x1, .f32⟩
  | 78 => ⟨S4x2048x1024, .f32⟩
  | 79 => ⟨S4x2048x1024, .f32⟩
  | 80 => ⟨S4x2048x1024, .f32⟩
  | 81 => ⟨S4x2048x1024, .f32⟩
  | 82 => ⟨S4x2048x1024, .f32⟩
  | 83 => ⟨S_, .f32⟩
  | 84 => ⟨S4x2048, .f32⟩
  | 85 => ⟨S4x2048x1, .f32⟩
  | 86 => ⟨S_, .f32⟩
  | 87 => ⟨S4x2048x1, .f32⟩
  | 88 => ⟨S4x2048x1, .f32⟩
  | 89 => ⟨S4x2048x1024, .f32⟩
  | 90 => ⟨S4x2048x1024, .f32⟩
  | 91 => ⟨S_, .f32⟩
  | 92 => ⟨S4x2048x1, .f32⟩
  | 93 => ⟨S4x2048x1, .f32⟩
  | 94 => ⟨S4x2048x1, .f32⟩
  | 95 => ⟨S4x2048x1024, .f32⟩
  | 96 => ⟨S4x2048x1024, .f32⟩
  | 97 => ⟨S1x1x1024, .f32⟩
  | 98 => ⟨S4x2048x1024, .f32⟩
  | 99 => ⟨S4x2048x1024, .f32⟩
  | 100 => ⟨S1x1x1024, .f32⟩
  | 101 => ⟨S4x2048x1024, .f32⟩
  | 102 => ⟨S4x2048x1024, .f32⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst : Ref sig .tc := ⟨.hbm, 70, rfl⟩
abbrev main_v51 : Ref sig .tc := ⟨.hbm, 71, rfl⟩
abbrev main_cst_0 : Ref sig .tc := ⟨.hbm, 72, rfl⟩
abbrev main_v52 : Ref sig .tc := ⟨.hbm, 73, rfl⟩
abbrev main_cst_1 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_values : Ref sig .tc := ⟨.hbm, 78, rfl⟩
abbrev main_indices : Ref sig .tc := ⟨.hbm, 79, rfl⟩
abbrev main_v56 : Ref sig .tc := ⟨.hbm, 80, rfl⟩
abbrev main_call0_c : Ref sig .tc := ⟨.hbm, 81, rfl⟩
abbrev main_call0_v0 : Ref sig .tc := ⟨.hbm, 82, rfl⟩
abbrev main_call0_v1 : Ref sig .tc := ⟨.hbm, 83, rfl⟩
abbrev main_call0_c_0 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_v57 : Ref sig .tc := ⟨.hbm, 88, rfl⟩
abbrev main_v58 : Ref sig .tc := ⟨.hbm, 89, rfl⟩
abbrev main_cst_2 : Ref sig .tc := ⟨.hbm, 90, rfl⟩
abbrev main_v59 : Ref sig .tc := ⟨.hbm, 91, rfl⟩
abbrev main_v60 : Ref sig .tc := ⟨.hbm, 92, rfl⟩
abbrev main_cst_3 : Ref sig .tc := ⟨.hbm, 93, rfl⟩
abbrev main_v61 : Ref sig .tc := ⟨.hbm, 94, rfl⟩
abbrev main_cst_4 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_5 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_6 : Ref sig .tc := ⟨.hbm, 108, rfl⟩
abbrev main_v73 : Ref sig .tc := ⟨.hbm, 109, rfl⟩
abbrev main_v74 : Ref sig .tc := ⟨.hbm, 110, rfl⟩
abbrev main_cst_7 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_c : Ref sig .tc := ⟨.hbm, 119, rfl⟩
abbrev main_v82 : Ref sig .tc := ⟨.hbm, 120, rfl⟩
abbrev main_v83 : Ref sig .tc := ⟨.hbm, 121, rfl⟩
abbrev main_c_8 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_c_9 : Ref sig .tc := ⟨.hbm, 126, rfl⟩
abbrev main_v87 : Ref sig .tc := ⟨.hbm, 127, rfl⟩
abbrev main_v88 : Ref sig .tc := ⟨.hbm, 128, rfl⟩
abbrev main_c_10 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_c_11 : Ref sig .tc := ⟨.hbm, 133, rfl⟩
abbrev main_v92 : Ref sig .tc := ⟨.hbm, 134, rfl⟩
abbrev main_v93 : Ref sig .tc := ⟨.hbm, 135, rfl⟩
abbrev main_c_12 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_cst_13 : Ref sig .tc := ⟨.hbm, 152, rfl⟩
abbrev main_v109 : Ref sig .tc := ⟨.hbm, 153, rfl⟩
abbrev main_v110 : Ref sig .tc := ⟨.hbm, 154, rfl⟩
abbrev main_cst_14 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_cst_15 : Ref sig .tc := ⟨.hbm, 163, rfl⟩
abbrev main_v118 : Ref sig .tc := ⟨.hbm, 164, rfl⟩
abbrev main_v119 : Ref sig .tc := ⟨.hbm, 165, rfl⟩
abbrev main_cst_16 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_cst_17 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_cst_18 : Ref sig .tc := ⟨.hbm, 187, rfl⟩
abbrev main_v139 : Ref sig .tc := ⟨.hbm, 188, rfl⟩
abbrev main_v140 : Ref sig .tc := ⟨.hbm, 189, rfl⟩
abbrev main_cst_19 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_cst_20 : Ref sig .tc := ⟨.hbm, 200, rfl⟩
abbrev main_v150 : Ref sig .tc := ⟨.hbm, 201, rfl⟩
abbrev main_v151 : Ref sig .tc := ⟨.hbm, 202, rfl⟩
abbrev main_cst_21 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_cst_22 : Ref sig .tc := ⟨.hbm, 211, rfl⟩
abbrev main_v159 : Ref sig .tc := ⟨.hbm, 212, rfl⟩
abbrev main_v160 : Ref sig .tc := ⟨.hbm, 213, rfl⟩
abbrev main_cst_23 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_cst_24 : Ref sig .tc := ⟨.hbm, 219, rfl⟩
abbrev main_v165 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩

abbrev nD : Nat := 1
abbrev τ : Topo := Topo.v7x

variable {F : FTy → Type} [FloatOps F]
-- ==== Proof.KernelRun.lean ====
/- The idealized kernel's run with its result: every execution of @main ends with the result array at the contents the
   last boundary of the program's segments gives it (`Gen.W10`), and the arguments as launched. The launch set-up is
   the frame's; only what is read off the final state differs. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every execution of the kernel ends with the result array `main_v32` at the last boundary's contents and every
    argument array unchanged. -/
theorem run_result : θ_run defs (onTc (τ := τ) (main (F := F))) ⟨m, fun _ => 0, ρ⟩ (fun r => ∀ c : Dev nD,
      r.2.mem ((c.tc : Thread nD τ).loc main_v32) = W10 m ρ c (Proc.devRef .tc main_v32) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) ∧
      r.2.mem ((c.tc : Thread nD τ).loc main_arg10) = m ((c.tc : Thread nD τ).loc main_arg10) ∧
      r.2.mem ((c.tc : Thread nD τ).loc main_arg11) = m ((c.tc : Thread nD τ).loc main_arg11) ∧
      r.2.mem ((c.tc : Thread nD τ).loc main_arg12) = m ((c.tc : Thread nD τ).loc main_arg12) ∧
      r.2.mem ((c.tc : Thread nD τ).loc main_arg13) = m ((c.tc : Thread nD τ).loc main_arg13) ∧
      r.2.mem ((c.tc : Thread nD τ).loc main_arg14) = m ((c.tc : Thread nD τ).loc main_arg14) ∧
      r.2.mem ((c.tc : Thread nD τ).loc main_arg15) = m ((c.tc : Thread nD τ).loc main_arg15) ∧
      r.2.mem ((c.tc : Thread nD τ).loc main_arg16) = m ((c.tc : Thread nD τ).loc main_arg16) ∧
      r.2.mem ((c.tc : Thread nD τ).loc main_arg17) = m ((c.tc : Thread nD τ).loc main_arg17) ∧
      r.2.mem ((c.tc : Thread nD τ).loc main_arg18) = m ((c.tc : Thread nD τ).loc main_arg18)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => (fun c =>
      ⟨h c _ (mem_uc main_v32 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c),
       (h c _ (mem_uc main_arg17 (by decide))).trans (W10_main_arg17 m ρ c),
       (h c _ (mem_uc main_arg18 (by decide))).trans (W10_main_arg18 m ρ c)⟩))

end Cert.KernelIdeal.Gen

end
-- ==== Proof.Spec.lean ====
/- The mathematics the claim is about, written over coordinates: the layer normalisation of a row, the
   exponential linear unit, and the feed-forward block both programs end with. -/
module

public import Idealize.ShloMosaic.Lib.Pointwise

@[expose] public section

noncomputable section

namespace Cert.Spec

open Idealize.ShloMosaic

/-- The mean of a row of 1024 numbers. -/
def mean (x : Fin 1024 → EReal) : EReal := Ideal.div (∑ k, x k) (Ideal.ofBits FTy.f32 1149239296#32)

/-- A row normalised to mean zero and variance one (up to the printed epsilon), scaled and shifted. -/
def norm (x g b : Fin 1024 → EReal) (o : Fin 1024) : EReal :=
  Ideal.div (x o - mean x)
      (Ideal.sqrt (mean (fun k => (x k - mean x) * (x k - mean x)) + Ideal.ofBits FTy.f32 981668463#32)) * g o + b o

/-- The exponential linear unit. -/
def elu (t : EReal) : EReal := if 0 < t then t else Ideal.exp (min t 0) - 1

/-- The hidden layer of the feed-forward block at a normalised row. -/
def hidden (xn : Fin 1024 → EReal) (w1 : Fin 1024 → Fin 4096 → EReal) (c1 : Fin 4096 → EReal) (j : Fin 4096) : EReal :=
  elu (∑ k, xn k * w1 k j + c1 j)

/-- What both programs do to a row once the attention has been added to it: normalise, apply the feed-forward
    block, add the normalised row, normalise again. -/
def ffnRow (x g1 b1 : Fin 1024 → EReal) (w1 : Fin 1024 → Fin 4096 → EReal) (c1 : Fin 4096 → EReal)
    (w2 : Fin 4096 → Fin 1024 → EReal) (c2 g2 b2 : Fin 1024 → EReal) (o : Fin 1024) : EReal :=
  norm (fun p => norm x g1 b1 p + (∑ j, hidden (norm x g1 b1) w1 c1 j * w2 j p + c2 p)) g2 b2 o

/-- The key positions every query is measured against. -/
def sample : Fin 32 → Fin 2048 := ![1220, 18, 1207, 1217, 653, 1387, 385, 295, 6, 1282, 552, 2034, 1433, 475, 1996, 1810, 1611, 898, 835, 519, 1590, 651, 268, 1731, 1132, 1553, 1008, 539, 284, 1335, 261, 676]

/-- A head's sparsity measure at one query: the largest of its products with the sampled keys, less their mean. -/
def measure (ks : Fin 32 → Fin 64 → EReal) (q : Fin 64 → EReal) : EReal :=
  Finset.univ.fold max ⊥ (fun n => ∑ d, ks n d * q d)
    - Ideal.div (∑ n, ∑ d, ks n d * q d) (Ideal.ofBits FTy.f32 0x42000000#32)

/-- A selected query's scaled products with all keys. -/
def score (q : Fin 64 → EReal) (k : Fin 2048 → Fin 64 → EReal) (l : Fin 2048) : EReal :=
  (∑ d, q d * k l d) * Ideal.ofBits FTy.f32 0x3E000000#32

/-- The softmax of a row. -/
def softmax (s : Fin 2048 → EReal) (l : Fin 2048) : EReal :=
  Ideal.div (Ideal.exp (s l - Finset.univ.fold max ⊥ s)) (∑ l', Ideal.exp (s l' - Finset.univ.fold max ⊥ s))

/-- A selected query's attention over the values. -/
def context (q : Fin 64 → EReal) (k v : Fin 2048 → Fin 64 → EReal) (d : Fin 64) : EReal :=
  ∑ l, softmax (score q k) l * v l d

/-- The mean of a column over all positions. -/
def colMean (v : Fin 2048 → EReal) : EReal := Ideal.div (∑ l, v l) (Ideal.ofBits FTy.f32 0x45000000#32)

/-- One entry of a projection with bias. -/
def proj (x w : Fin 1024 → EReal) (b : EReal) : EReal := (∑ k, x k * w k) + b

end Cert.Spec

end
-- ==== Proof.FfnBlock.lean ====
/- What one block of the kernel's last call computes at an index. -/
module

public import proofs.«01_k».proof.Proof.Gen.KernelIdeal.Skeleton
public import proofs.«01_k».proof.Proof.Spec

@[expose] public section

set_option maxRecDepth 16384

noncomputable section

namespace Cert.KernelIdeal.Ffn

open Idealize.ShloMosaic Cert.KernelIdeal.Gen Cert.Spec

/-- A comparison bit widened to a word and read as a float is one where it holds and zero elsewhere. -/
theorem onehot_apply (a b : BitVec 32) (φ : FTy) :
    (FloatOps.sitofp (F := Ideal) φ (BitVec.setWidth 32 (IntOp.cmpi CmpIPredicate.eq a b)) : EReal) = if a = b then 1 else 0 := by
  show (((BitVec.setWidth 32 (IntOp.cmpi CmpIPredicate.eq a b)).toInt : ℝ) : EReal) = _
  by_cases h : a = b
  · subst h
    simp [IntOp.cmpi]
  · have h' : (a == b) = false := by simpa using h
    simp [IntOp.cmpi, h, h']

/-- The row offset of a grid point within its batch: 512 times the point modulo four. -/
theorem rowOff (i : Fin 16) :
    (Scalar.muli
      (Scalar.subi (BitVec.ofNat 32 i.val)
        (Scalar.muli
          (Scalar.select
            (Scalar.andi
              (Scalar.cmpi CmpIPredicate.ne
                (Scalar.subi (Scalar.extui (Scalar.cmpi CmpIPredicate.sgt (BitVec.ofNat 32 i.val) 0#32))
                  (Scalar.extui (Scalar.cmpi CmpIPredicate.slt (BitVec.ofNat 32 i.val) 0#32)))
                (Scalar.subi (Scalar.extui (Scalar.cmpi CmpIPredicate.sgt 4#32 0#32))
                  (Scalar.extui (Scalar.cmpi CmpIPredicate.slt 4#32 0#32))))
              (Scalar.cmpi CmpIPredicate.ne (Scalar.remsi (BitVec.ofNat 32 i.val) 4#32) 0#32))
            (Scalar.subi (Scalar.divsi (BitVec.ofNat 32 i.val) 4#32) 1#32)
            (Scalar.divsi (BitVec.ofNat 32 i.val) 4#32))
          4#32))
      512#32 : BitVec 32) = BitVec.ofNat 32 (i.val % 4 * 512) := by
  revert i; decide

/-- The query row with the corrections of the chosen rows added: each of the 512 chosen positions adds its
    correction where it names this row. -/
theorem pay2_apply (i : grid4.Coords) (v20 : Vec Ideal S1x1x512 .i32) (v31 : Vec Ideal S1x512x1024 .bf16)
    (v34 : Vec Ideal S512x1024 .f32) (r : Fin 512) (o : Fin 1024) :
    k4_pay2 (F := Ideal) i v20 v31 v34 (ix2 r o)
      = v34 (ix2 r o) + ∑ n : Fin 512,
          (if BitVec.ofNat 32 r.val + BitVec.ofNat 32 ((i 0).val % 4 * 512) = v20 (ix3 0 0 n) then (1 : EReal) else 0)
            * v31 (ix3 0 n o) := by
  pointwise [k4_pay2]
  refine congrArg (v34 (ix2 r o) + ·) (Finset.sum_congr rfl fun n _ => ?_)
  rw [onehot_apply, rowOff (i 0)]
  rfl

/-- The normalised row of the block. -/
theorem pay3_apply (v36 : FVec Ideal S512x1024 .f32) (v37 : Vec Ideal S1x1x1024 .f32) (v59 v63 : Vec Ideal S1x1024 .f32)
    (r : Fin 512) (o : Fin 1024) :
    k4_pay3 v36 v37 v59 v63 (ix2 r o)
      = norm (fun k => v36 (ix2 r k) + v37 (ix3 0 0 k)) (fun k => v59 (ix2 0 k)) (fun k => v63 (ix2 0 k)) o := by
  pointwise [k4_pay3]
  rfl

/-- The hidden layer before its activation. -/
theorem pay4_apply (v36 : FVec Ideal S512x1024 .f32) (v37 : Vec Ideal S1x1x1024 .f32) (v59 v63 : Vec Ideal S1x1024 .f32)
    (v68 : Vec Ideal S1024x4096 .bf16) (v71 : Vec Ideal S1x4096 .f32) (r : Fin 512) (j : Fin 4096) :
    k4_pay4 v36 v37 v59 v63 v68 v71 (ix2 r j)
      = ∑ k : Fin 1024, k4_pay3 v36 v37 v59 v63 (ix2 r k) * v68 (ix2 k j) + v71 (ix2 0 j) := by
  pointwise [k4_pay4]

/-- What the block stores, from the normalised row and the hidden layer before its activation. -/
theorem pay1_apply (v66 : FVec Ideal S512x1024 .f32) (v36 : FVec Ideal S512x1024 .f32) (v37 : Vec Ideal S1x1x1024 .f32)
    (v59 v63 : Vec Ideal S1x1024 .f32) (v68 : Vec Ideal S1024x4096 .bf16) (v71 : Vec Ideal S1x4096 .f32)
    (v84 : Vec Ideal S4096x1024 .bf16) (v87 v110 v114 : Vec Ideal S1x1024 .f32) (r : Fin 512) (o : Fin 1024) :
    k4_pay1 v66 (k4_pay4 v36 v37 v59 v63 v68 v71) (k4_pay5 v36 v37 v59 v63 v68 v71) (k4_pay6 v36 v37 v59 v63 v68 v71)
        k4_pay7 v84 v87 v110 v114 (ix2 r o)
      = norm (fun p => v66 (ix2 r p) + (∑ j : Fin 4096, elu (k4_pay4 v36 v37 v59 v63 v68 v71 (ix2 r j)) * v84 (ix2 j p) + v87 (ix2 0 p)))
          (fun k => v110 (ix2 0 k)) (fun k => v114 (ix2 0 k)) o := by
  pointwise [k4_pay1, k4_pay5, k4_pay6, k4_pay7]
  rfl

/-- What one block of the last call stores at row `r`, column `o`: the feed-forward row of the query row with its
    corrections and the base row added. -/
theorem block_apply (i : grid4.Coords) (x0 : Vec Ideal S512x1024 .f32) (x1 : Vec Ideal S1x1x512 .i32)
    (x2 : Vec Ideal S1x512x1024 .bf16) (x3 : Vec Ideal S1x1x1024 .f32) (x4 x5 : Vec Ideal S1x1024 .f32)
    (x6 : Vec Ideal S1024x4096 .bf16) (x7 : Vec Ideal S1x4096 .f32) (x8 : Vec Ideal S4096x1024 .bf16)
    (x9 x10 x11 : Vec Ideal S1x1024 .f32) (r : Fin 512) (o : Fin 1024) :
    k4_pay1 (k4_pay3 (k4_pay2 i x1 x2 x0) x3 x4 x5) (k4_pay4 (k4_pay2 i x1 x2 x0) x3 x4 x5 x6 x7)
        (k4_pay5 (k4_pay2 i x1 x2 x0) x3 x4 x5 x6 x7) (k4_pay6 (k4_pay2 i x1 x2 x0) x3 x4 x5 x6 x7) k4_pay7 x8 x9 x10 x11
        (ix2 r o)
      = ffnRow (fun k => x0 (ix2 r k) + (∑ n : Fin 512,
            (if BitVec.ofNat 32 r.val + BitVec.ofNat 32 ((i 0).val % 4 * 512) = x1 (ix3 0 0 n) then (1 : EReal) else 0)
              * x2 (ix3 0 n k)) + x3 (ix3 0 0 k))
          (fun k => x4 (ix2 0 k)) (fun k => x5 (ix2 0 k)) (fun k j => x6 (ix2 k j)) (fun j => x7 (ix2 0 j))
          (fun j p => x8 (ix2 j p)) (fun k => x9 (ix2 0 k)) (fun k => x10 (ix2 0 k)) (fun k => x11 (ix2 0 k)) o := by
  rw [pay1_apply]
  simp only [pay4_apply, pay3_apply, pay2_apply]
  rfl

end Cert.KernelIdeal.Ffn

end
-- ==== Proof.Words.lean ====
/- Facts about the 32-bit words and the float literals the programs use. -/
module

public import Idealize.ShloMosaic.Lib.Pointwise

@[expose] public section

set_option maxRecDepth 16384

noncomputable section

namespace Cert.Words

open Idealize.ShloMosaic

/-- The mask literal is minus infinity. -/
theorem negInf : Ideal.ofBits FTy.f32 0xFF800000#32 = ⊥ := by simp [Ideal.ofBits, Ideal.ieee]

/-- Selecting by an equality of words. -/
theorem select_cmpi_eq {α : Type} (a b : BitVec 32) (x y : α) :
    Scalar.select (IntOp.cmpi CmpIPredicate.eq a b) x y = if a = b then x else y := by
  by_cases h : a = b
  · subst h
    simp [Scalar.select, IntOp.cmpi]
  · have h' : (a == b) = false := by simpa using h
    simp [Scalar.select, IntOp.cmpi, h, h']

/-- Words spelling positions are equal exactly where the positions are. -/
theorem ofNat_inj_2048 (a b : Fin 2048) : BitVec.ofNat 32 a.val = BitVec.ofNat 32 b.val ↔ a = b := by
  constructor
  · intro h
    have h' := congrArg BitVec.toNat h
    simp only [BitVec.toNat_ofNat] at h'
    have := a.isLt; have := b.isLt
    exact Fin.ext (by omega)
  · rintro rfl; rfl

/-- Words spelling heads are equal exactly where the heads are. -/
theorem ofNat_inj_16 (a b : ℕ) (ha : a < 16) (hb : b < 16) : BitVec.ofNat 32 a = BitVec.ofNat 32 b ↔ a = b := by
  constructor
  · intro h
    have h' := congrArg BitVec.toNat h
    simp only [BitVec.toNat_ofNat] at h'
    omega
  · rintro rfl; rfl

/-- The head of a row of the 16 × 32 selected rows: the row's number divided by 32. -/
theorem headRow (r : Fin 512) : (Scalar.select
        (IntOp.andi
          (IntOp.cmpi CmpIPredicate.ne
            (IntOp.subi (BitVec.setWidth 32 (IntOp.cmpi CmpIPredicate.sgt (BitVec.ofNat 32 r.val) 0#32))
              (BitVec.setWidth 32 (IntOp.cmpi CmpIPredicate.slt (BitVec.ofNat 32 r.val) 0#32)))
            (Scalar.subi (Scalar.extui (Scalar.cmpi CmpIPredicate.sgt 32#32 0#32))
              (Scalar.extui (Scalar.cmpi CmpIPredicate.slt 32#32 0#32))))
          (IntOp.cmpi CmpIPredicate.ne (IntOp.remsi ArithUnit.vector (BitVec.ofNat 32 r.val) 32#32) 0#32))
        (IntOp.subi (IntOp.divsi ArithUnit.vector (BitVec.ofNat 32 r.val) 32#32) 1#32)
        (IntOp.divsi ArithUnit.vector (BitVec.ofNat 32 r.val) 32#32) : BitVec 32) = BitVec.ofNat 32 (r.val / 32) := by
  revert r; decide +kernel

/-- The same of the row `n` of head `h`. -/
theorem headRow₂ (h : Fin 16) (n : Fin 32) : (Scalar.select
        (IntOp.andi
          (IntOp.cmpi CmpIPredicate.ne
            (IntOp.subi (BitVec.setWidth 32 (IntOp.cmpi CmpIPredicate.sgt (BitVec.ofNat 32 (h.val * 32 + n.val)) 0#32))
              (BitVec.setWidth 32 (IntOp.cmpi CmpIPredicate.slt (BitVec.ofNat 32 (h.val * 32 + n.val)) 0#32)))
            (Scalar.subi (Scalar.extui (Scalar.cmpi CmpIPredicate.sgt 32#32 0#32))
              (Scalar.extui (Scalar.cmpi CmpIPredicate.slt 32#32 0#32))))
          (IntOp.cmpi CmpIPredicate.ne (IntOp.remsi ArithUnit.vector (BitVec.ofNat 32 (h.val * 32 + n.val)) 32#32) 0#32))
        (IntOp.subi (IntOp.divsi ArithUnit.vector (BitVec.ofNat 32 (h.val * 32 + n.val)) 32#32) 1#32)
        (IntOp.divsi ArithUnit.vector (BitVec.ofNat 32 (h.val * 32 + n.val)) 32#32) : BitVec 32) = BitVec.ofNat 32 h.val := by
  revert h n; decide +kernel

/-- The head of a column: the column's number divided by 64. -/
theorem headCol (j : Fin 1024) : (Scalar.select
        (IntOp.andi
          (IntOp.cmpi CmpIPredicate.ne
            (IntOp.subi (BitVec.setWidth 32 (IntOp.cmpi CmpIPredicate.sgt (BitVec.ofNat 32 j.val) 0#32))
              (BitVec.setWidth 32 (IntOp.cmpi CmpIPredicate.slt (BitVec.ofNat 32 j.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 j.val) 64#32) 0#32))
        (IntOp.subi (IntOp.divsi ArithUnit.vector (BitVec.ofNat 32 j.val) 64#32) 1#32)
        (IntOp.divsi ArithUnit.vector (BitVec.ofNat 32 j.val) 64#32) : BitVec 32) = BitVec.ofNat 32 (j.val / 64) := by
  revert j; decide +kernel

/-- Column `d` of head `h`. -/
def col (h : Fin 16) (d : Fin 64) : Fin 1024 := ⟨h.val * 64 + d.val, by omega⟩

/-- Summing over all columns what is zero outside one head is summing over the head's columns. -/
theorem sum_head (F : Fin 1024 → EReal) (h : Fin 16) (m : ℕ) (hm : m = h.val) :
    (∑ j : Fin 1024, if BitVec.ofNat 32 m = BitVec.ofNat 32 (j.val / 64) then F j else 0) = ∑ d : Fin 64, F (col h d) := by
  subst hm
  have h1 : ∀ j : Fin 1024, (BitVec.ofNat 32 h.val = BitVec.ofNat 32 (j.val / 64)) ↔ h.val = j.val / 64 := fun j =>
    ofNat_inj_16 _ _ h.isLt (by omega)
  simp only [h1]
  rw [← Finset.sum_filter]
  refine (Finset.sum_bij (fun d _ => col h d) ?_ ?_ ?_ ?_).symm
  · intro d _
    simp only [Finset.mem_filter, Finset.mem_univ, true_and, col]
    have := d.isLt; omega
  · intro a _ b _ e
    have := congrArg Fin.val e
    simp only [col] at this
    exact Fin.ext (by omega)
  · intro j hj
    simp only [Finset.mem_filter, Finset.mem_univ, true_and] at hj
    exact ⟨⟨j.val - h.val * 64, by omega⟩, Finset.mem_univ _, Fin.ext (by simp only [col]; omega)⟩
  · intro d _; rfl

/-- A sum against a one-hot row reads the row's entry. -/
theorem sum_onehot (p : Fin 2048) (F : Fin 2048 → EReal) :
    (∑ l : Fin 2048, (if BitVec.ofNat 32 l.val = BitVec.ofNat 32 p.val then (1 : EReal) else 0) * F l) = F p := by
  simp only [ofNat_inj_2048, ite_mul, one_mul, zero_mul, Finset.sum_ite_eq', Finset.mem_univ, if_true]

end Cert.Words

end
-- ==== Proof.AttnBlock.lean ====
/- What one block of the kernel's attention call computes at an index. -/
module

public import proofs.«01_k».proof.Proof.FfnBlock
public import proofs.«01_k».proof.Proof.Words

@[expose] public section

set_option maxRecDepth 16384

noncomputable section

namespace Cert.KernelIdeal.Attn

open Idealize.ShloMosaic Cert.KernelIdeal.Gen Cert.Spec Cert.Words

/-- The selected query rows: each reads the query row its index names. -/
theorem pay7_apply (v0 : Vec Ideal S1x2048x1024 .bf16) (v8 : Vec Ideal S1x1x512 .i32) (p : Fin 512 → Fin 2048)
    (hp : ∀ r, v8 (ix3 0 0 r) = BitVec.ofNat 32 (p r).val) (r : Fin 512) (j : Fin 1024) :
    k3_pay7 (F := Ideal) v0 v8 (ix2 r j) = v0 (ix3 0 (p r) j) := by
  rw [← sum_onehot (p r) fun l => v0 (ix3 0 l j), ← hp]
  pointwise [k3_pay7]
  refine Finset.sum_congr rfl fun n _ => ?_
  rw [Ffn.onehot_apply]

/-- The mean of a column of the values. -/
theorem pay1_apply (v5 : FVec Ideal S2048x1024 .bf16) (j : Fin 1024) :
    k3_pay1 (F := Ideal) v5 (ix2 0 j) = colMean fun l => v5 (ix2 l j) := by
  pointwise [k3_pay1]
  rfl

/-- The mask that keeps a row's own head. -/
abbrev mask : IVec S512x1024 1 :=
  k3_pay11 (iota .tc S512x1024 32 [1] iota_S512x1024_d1_w32) k3_pay8 k3_pay9 k3_pay10 0#32

/-- The mask compares the head of a row with the head of a column. -/
theorem mask_apply (r : Fin 512) (j : Fin 1024) :
    mask (ix2 r j) = IntOp.cmpi CmpIPredicate.eq (BitVec.ofNat 32 (r.val / 32)) (BitVec.ofNat 32 (j.val / 64)) := by
  pointwise [mask, k3_pay11, k3_pay8, k3_pay9, k3_pay10]
  rw [headRow, headCol]

/-- The head of a row of the selected rows. -/
def head (r : Fin 512) : Fin 16 := ⟨r.val / 32, by omega⟩

/-- The attention weights of a selected row: its head's softmax. -/
theorem pay12_apply (v3 : FVec Ideal S2048x1024 .bf16) (v17 : FVec Ideal S512x1024 .f32) (r : Fin 512) (j : Fin 2048) :
    k3_pay12 (F := Ideal) v3 v17 (iota .tc S512x1024 32 [1] iota_S512x1024_d1_w32) k3_pay8 k3_pay9 k3_pay10 0#32 (ix2 r j)
      = softmax (score (fun d => v17 (ix2 r (col (head r) d))) fun l d => v3 (ix2 l (col (head r) d))) j := by
  pointwise [k3_pay12]
  have h : ∀ (r : Fin 512) (j : Fin 1024),
      k3_pay11 (iota .tc S512x1024 32 [1] iota_S512x1024_d1_w32) k3_pay8 k3_pay9 k3_pay10 0#32 (ix2 r j)
        = IntOp.cmpi CmpIPredicate.eq (BitVec.ofNat 32 (r.val / 32)) (BitVec.ofNat 32 (j.val / 64)) := mask_apply
  have hs : ∀ l : Fin 2048, (∑ x : Fin 1024, if BitVec.ofNat 32 (r.val / 32) = BitVec.ofNat 32 (x.val / 64)
        then v17 (ix2 r x) * v3 (ix2 l x) else 0)
      = ∑ d : Fin 64, v17 (ix2 r (col (head r) d)) * v3 (ix2 l (col (head r) d)) := fun l =>
    sum_head (fun x => v17 (ix2 r x) * v3 (ix2 l x)) (head r) _ rfl
  simp only [h, select_cmpi_eq, hs, negInf]
  rfl

/-- The correction a selected row adds: its attention less the value mean, through its head's output weights. -/
theorem pay2_apply (v5 : FVec Ideal S2048x1024 .bf16) (v7 : FVec Ideal S1024x1024 .bf16) (v84 : FVec Ideal S512x2048 .f32)
    (r : Fin 512) (o : Fin 1024) :
    k3_pay2 (F := Ideal) v5 v7 mask v84 (ix3 0 r o)
      = ∑ d : Fin 64, ((∑ l : Fin 2048, v84 (ix2 r l) * v5 (ix2 l (col (head r) d)))
          - colMean fun l => v5 (ix2 l (col (head r) d))) * v7 (ix2 (col (head r) d) o) := by
  pointwise [k3_pay2]
  have h : ∀ (r : Fin 512) (j : Fin 1024),
      mask (ix2 r j)
        = IntOp.cmpi CmpIPredicate.eq (BitVec.ofNat 32 (r.val / 32)) (BitVec.ofNat 32 (j.val / 64)) := mask_apply
  simp only [h, select_cmpi_eq, pay1_apply]
  exact sum_head (fun x => ((∑ l : Fin 2048, v84 (ix2 r l) * v5 (ix2 l x)) - colMean fun l => v5 (ix2 l x)) * v7 (ix2 x o)) (head r) _ rfl

/-- The row every query adds: the value mean through the output weights, with the output bias. -/
theorem pay3_apply (v5 : FVec Ideal S2048x1024 .bf16) (v7 : FVec Ideal S1024x1024 .bf16) (v68 : Vec Ideal S1x1024 .f32)
    (o : Fin 1024) :
    k3_pay3 (F := Ideal) v5 v7 v68 (ix3 0 0 o) = proj (fun j => colMean fun l => v5 (ix2 l j)) (fun j => v7 (ix2 j o)) (v68 (ix2 0 o)) := by
  pointwise [k3_pay3]
  simp only [pay1_apply]
  rfl

end Cert.KernelIdeal.Attn

end
-- ==== Proof.KernelReads.lean ====
/- What the kernel's own reshapes and format changes between its calls leave, read at an index. -/
module

public import proofs.«01_k».proof.Proof.Gen.KernelIdeal.Frame
public import proofs.«01_k».proof.Proof.AttnBlock
public import Idealize.ShloMosaic.Lib.StableHlo.ReadAt

@[expose] public section

set_option maxRecDepth 16384

noncomputable section

namespace Cert.KernelIdeal.Reads

open Idealize.ShloMosaic Idealize.ShloMosaic.TcCoe Idealize.ShloMosaic.Tactic Cert.KernelIdeal.Gen Cert.Words

/-- Two reads agree when their coordinates do. -/
theorem at3 {α : Type} {a b c : ℕ} (f : (⟨3, ![a, b, c]⟩ : Shape).Idx → α) {i i' : Fin a} {j j' : Fin b} {k k' : Fin c}
    (hi : i.val = i'.val) (hj : j.val = j'.val) (hk : k.val = k'.val) : f (ix3 i j k) = f (ix3 i' j' k') := by
  rw [Fin.ext hi, Fin.ext hj, Fin.ext hk]

/-- Entries of a matrix at positions with equal numbers are equal. -/
theorem at2 {α : Type} {a b : ℕ} (f : (⟨2, ![a, b]⟩ : Shape).Idx → α) {i i' : Fin a} {j j' : Fin b}
    (hi : i.val = i'.val) (hj : j.val = j'.val) : f (ix2 i j) = f (ix2 i' j') := by
  rw [Fin.ext hi, Fin.ext hj]

variable (m : (ℓ : Loc nD τ sig) → Buf (Elt Ideal) ℓ) (ρ : Dev nD → PrngReg) (c : Dev nD)

/-- The query input as rows. -/
theorem v0 (B : Fin 4) (l : Fin 2048) (k : Fin 1024) (R : Fin 8192) (hR : R.val = B.val * 2048 + l.val) :
    V1 m ρ c main_v0 (ix2 R k) = m ((c : Thread nD τ).loc main_arg0) (ix3 B l k) := by
  show StableHlo.after hostOps0 (W0 m ρ c) (Proc.devRef .tc main_v0) (ix2 R k) = _
  after_reads_at
  exact at3 (m ((c : Thread nD τ).loc main_arg0)) (by simp only; omega) (by simp only; omega) rfl

/-- The key input as rows. -/
theorem v1 (B : Fin 4) (l : Fin 2048) (k : Fin 1024) (R : Fin 8192) (hR : R.val = B.val * 2048 + l.val) :
    V1 m ρ c main_v1 (ix2 R k) = m ((c : Thread nD τ).loc main_arg1) (ix3 B l k) := by
  show StableHlo.after hostOps0 (W0 m ρ c) (Proc.devRef .tc main_v1) (ix2 R k) = _
  after_reads_at
  exact at3 (m ((c : Thread nD τ).loc main_arg1)) (by simp only; omega) (by simp only; omega) rfl

/-- The value input as rows. -/
theorem v2 (B : Fin 4) (l : Fin 2048) (k : Fin 1024) (R : Fin 8192) (hR : R.val = B.val * 2048 + l.val) :
    V1 m ρ c main_v2 (ix2 R k) = m ((c : Thread nD τ).loc main_arg2) (ix3 B l k) := by
  show StableHlo.after hostOps0 (W0 m ρ c) (Proc.devRef .tc main_v2) (ix2 R k) = _
  after_reads_at
  exact at3 (m ((c : Thread nD τ).loc main_arg2)) (by simp only; omega) (by simp only; omega) rfl

/-- The query projection as a matrix. -/
theorem v4 (k : Fin 1024) (h : Fin 16) (d : Fin 64) :
    V1 m ρ c main_v4 (ix2 k (col h d)) = m ((c : Thread nD τ).loc main_arg3) (ix3 k h d) := by
  show StableHlo.after hostOps0 (W0 m ρ c) (Proc.devRef .tc main_v4) (ix2 k (col h d)) = _
  after_reads_at
  exact at3 (m ((c : Thread nD τ).loc main_arg3)) rfl (by simp only [col]; omega) (by simp only [col]; omega)

/-- The key projection as a matrix. -/
theorem v7 (k : Fin 1024) (h : Fin 16) (d : Fin 64) :
    V1 m ρ c main_v7 (ix2 k (col h d)) = m ((c : Thread nD τ).loc main_arg5) (ix3 k h d) := by
  show StableHlo.after hostOps0 (W0 m ρ c) (Proc.devRef .tc main_v7) (ix2 k (col h d)) = _
  after_reads_at
  exact at3 (m ((c : Thread nD τ).loc main_arg5)) rfl (by simp only [col]; omega) (by simp only [col]; omega)

/-- The value projection as a matrix. -/
theorem v10 (k : Fin 1024) (h : Fin 16) (d : Fin 64) :
    V1 m ρ c main_v10 (ix2 k (col h d)) = m ((c : Thread nD τ).loc main_arg7) (ix3 k h d) := by
  show StableHlo.after hostOps0 (W0 m ρ c) (Proc.devRef .tc main_v10) (ix2 k (col h d)) = _
  after_reads_at
  exact at3 (m ((c : Thread nD τ).loc main_arg7)) rfl (by simp only [col]; omega) (by simp only [col]; omega)

/-- The query projection's bias as a row. -/
theorem v5 (h : Fin 16) (d : Fin 64) :
    V1 m ρ c main_v5 (ix2 0 (col h d)) = m ((c : Thread nD τ).loc main_arg4) (ix2 h d) := by
  show StableHlo.after hostOps0 (W0 m ρ c) (Proc.devRef .tc main_v5) (ix2 0 (col h d)) = _
  after_reads_at
  exact at2 (m ((c : Thread nD τ).loc main_arg4)) (by simp only [col]; omega) (by simp only [col]; omega)

/-- The key projection's bias as a row. -/
theorem v8 (h : Fin 16) (d : Fin 64) :
    V1 m ρ c main_v8 (ix2 0 (col h d)) = m ((c : Thread nD τ).loc main_arg6) (ix2 h d) := by
  show StableHlo.after hostOps0 (W0 m ρ c) (Proc.devRef .tc main_v8) (ix2 0 (col h d)) = _
  after_reads_at
  exact at2 (m ((c : Thread nD τ).loc main_arg6)) (by simp only [col]; omega) (by simp only [col]; omega)

/-- The value projection's bias as a row. -/
theorem v11 (h : Fin 16) (d : Fin 64) :
    V1 m ρ c main_v11 (ix2 0 (col h d)) = m ((c : Thread nD τ).loc main_arg8) (ix2 h d) := by
  show StableHlo.after hostOps0 (W0 m ρ c) (Proc.devRef .tc main_v11) (ix2 0 (col h d)) = _
  after_reads_at
  exact at2 (m ((c : Thread nD τ).loc main_arg8)) (by simp only [col]; omega) (by simp only [col]; omega)

/-- The projected queries by batch. -/
theorem v13 (B : Fin 4) (l : Fin 2048) (k : Fin 1024) (R : Fin 8192) (hR : R.val = B.val * 2048 + l.val) :
    V3 m ρ c main_v13 (ix3 B l k) = W2 m ρ c (Proc.devRef .tc main_v12_0) (ix2 R k) := by
  show StableHlo.after hostOps1 (W2 m ρ c) (Proc.devRef .tc main_v13) (ix3 B l k) = _
  after_reads_at
  exact at2 (W2 m ρ c (Proc.devRef .tc main_v12_0)) (by simp only; omega) rfl

/-- The projected keys by batch. -/
theorem v14 (B : Fin 4) (l : Fin 2048) (k : Fin 1024) (R : Fin 8192) (hR : R.val = B.val * 2048 + l.val) :
    V3 m ρ c main_v14 (ix3 B l k) = W2 m ρ c (Proc.devRef .tc main_v12_1) (ix2 R k) := by
  show StableHlo.after hostOps1 (W2 m ρ c) (Proc.devRef .tc main_v14) (ix3 B l k) = _
  after_reads_at
  exact at2 (W2 m ρ c (Proc.devRef .tc main_v12_1)) (by simp only; omega) rfl

/-- The projected values by batch. -/
theorem v15 (B : Fin 4) (l : Fin 2048) (k : Fin 1024) (R : Fin 8192) (hR : R.val = B.val * 2048 + l.val) :
    V3 m ρ c main_v15 (ix3 B l k) = W2 m ρ c (Proc.devRef .tc main_v12_2) (ix2 R k) := by
  show StableHlo.after hostOps1 (W2 m ρ c) (Proc.devRef .tc main_v15) (ix3 B l k) = _
  after_reads_at
  exact at2 (W2 m ρ c (Proc.devRef .tc main_v12_2)) (by simp only; omega) rfl

/-- The selected positions, one row a batch. -/
theorem v18 (B : Fin 4) (n : Fin 512) (R : Fin 64) (s : Fin 32) (hR : R.val = B.val * 16 + n.val / 32) (hs : s.val = n.val % 32) :
    V6 m ρ c main_v18 (ix3 B 0 n) = W5 m ρ c (Proc.devRef .tc main_v17) (ix2 R s) := by
  show StableHlo.after hostOps3 (W5 m ρ c) (Proc.devRef .tc main_v18) (ix3 B 0 n) = _
  after_reads_at
  exact at2 (W5 m ρ c (Proc.devRef .tc main_v17)) (by simp only; omega) (by simp only; omega)

/-- The output projection as a matrix. -/
theorem v20 (h : Fin 16) (d : Fin 64) (o : Fin 1024) :
    V6 m ρ c main_v20 (ix2 (col h d) o) = m ((c : Thread nD τ).loc main_arg9) (ix3 h d o) := by
  show StableHlo.after hostOps3 (W5 m ρ c) (Proc.devRef .tc main_v20) (ix2 (col h d) o) = _
  after_reads_at
  rw [W5_args m ρ c main_arg9 (by decide)]
  exact at3 (m ((c : Thread nD τ).loc main_arg9)) (by simp only [col]; omega) (by simp only [col]; omega) rfl

/-- The output projection's bias as a row. -/
theorem v21 (o : Fin 1024) :
    V6 m ρ c main_v21 (ix2 0 o) = m ((c : Thread nD τ).loc main_arg10) (ix1 o) := by
  show StableHlo.after hostOps3 (W5 m ρ c) (Proc.devRef .tc main_v21) (ix2 0 o) = _
  after_reads_at
  rw [W5_args m ρ c main_arg10 (by decide)]

/-- The first normalisation's scale as a row. -/
theorem v23 (o : Fin 1024) :
    V8 m ρ c main_v23 (ix2 0 o) = m ((c : Thread nD τ).loc main_arg11) (ix1 o) := by
  show StableHlo.after hostOps4 (W7 m ρ c) (Proc.devRef .tc main_v23) (ix2 0 o) = _
  after_reads_at
  rw [W7_args m ρ c main_arg11 (by decide)]

/-- The first normalisation's shift as a row. -/
theorem v24 (o : Fin 1024) :
    V8 m ρ c main_v24 (ix2 0 o) = m ((c : Thread nD τ).loc main_arg12) (ix1 o) := by
  show StableHlo.after hostOps4 (W7 m ρ c) (Proc.devRef .tc main_v24) (ix2 0 o) = _
  after_reads_at
  rw [W7_args m ρ c main_arg12 (by decide)]

/-- The hidden layer's bias as a row. -/
theorem v26 (o : Fin 4096) :
    V8 m ρ c main_v26 (ix2 0 o) = m ((c : Thread nD τ).loc main_arg14) (ix1 o) := by
  show StableHlo.after hostOps4 (W7 m ρ c) (Proc.devRef .tc main_v26) (ix2 0 o) = _
  after_reads_at
  rw [W7_args m ρ c main_arg14 (by decide)]

/-- The second layer's bias as a row. -/
theorem v28 (o : Fin 1024) :
    V8 m ρ c main_v28 (ix2 0 o) = m ((c : Thread nD τ).loc main_arg16) (ix1 o) := by
  show StableHlo.after hostOps4 (W7 m ρ c) (Proc.devRef .tc main_v28) (ix2 0 o) = _
  after_reads_at
  rw [W7_args m ρ c main_arg16 (by decide)]

/-- The second normalisation's scale as a row. -/
theorem v29 (o : Fin 1024) :
    V8 m ρ c main_v29 (ix2 0 o) = m ((c : Thread nD τ).loc main_arg17) (ix1 o) := by
  show StableHlo.after hostOps4 (W7 m ρ c) (Proc.devRef .tc main_v29) (ix2 0 o) = _
  after_reads_at
  rw [W7_args m ρ c main_arg17 (by decide)]

/-- The second normalisation's shift as a row. -/
theorem v30 (o : Fin 1024) :
    V8 m ρ c main_v30 (ix2 0 o) = m ((c : Thread nD τ).loc main_arg18) (ix1 o) := by
  show StableHlo.after hostOps4 (W7 m ρ c) (Proc.devRef .tc main_v30) (ix2 0 o) = _
  after_reads_at
  rw [W7_args m ρ c main_arg18 (by decide)]

/-- The hidden layer's weights. -/
theorem v25 (i : Fin 1024) (j : Fin 4096) :
    V8 m ρ c main_v25 (ix2 i j) = m ((c : Thread nD τ).loc main_arg13) (ix2 i j) := by
  show StableHlo.after hostOps4 (W7 m ρ c) (Proc.devRef .tc main_v25) (ix2 i j) = _
  after_reads_at
  rw [W7_args m ρ c main_arg13 (by decide)]

/-- The second layer's weights. -/
theorem v27 (i : Fin 4096) (j : Fin 1024) :
    V8 m ρ c main_v27 (ix2 i j) = m ((c : Thread nD τ).loc main_arg15) (ix2 i j) := by
  show StableHlo.after hostOps4 (W7 m ρ c) (Proc.devRef .tc main_v27) (ix2 i j) = _
  after_reads_at
  rw [W7_args m ρ c main_arg15 (by decide)]

/-- The result by batch. -/
theorem v32 (B : Fin 4) (l : Fin 2048) (k : Fin 1024) (R : Fin 8192) (hR : R.val = B.val * 2048 + l.val) :
    W10 m ρ c (Proc.devRef .tc main_v32) (ix3 B l k) = W9 m ρ c (Proc.devRef .tc main_v31) (ix2 R k) := by
  show StableHlo.after hostOps5 (W9 m ρ c) (Proc.devRef .tc main_v32) (ix3 B l k) = _
  after_reads_at
  exact at2 (W9 m ρ c (Proc.devRef .tc main_v31)) (by simp only; omega) rfl

end Cert.KernelIdeal.Reads

end
-- ==== Proof.HeadSums.lean ====
/- Sums over all columns, and over all selected rows, regrouped by head. -/
module

public import proofs.«01_k».proof.Proof.AttnBlock

@[expose] public section

noncomputable section

namespace Cert.Words

open Idealize.ShloMosaic Cert.KernelIdeal.Attn

/-- Row `n` of head `h` among the selected rows. -/
def sel (h : Fin 16) (n : Fin 32) : Fin 512 := ⟨h.val * 32 + n.val, by omega⟩

/-- The head of row `n` of head `h` is `h`. -/
theorem head_sel (h : Fin 16) (n : Fin 32) : head (sel h n) = h := by
  apply Fin.ext
  show (h.val * 32 + n.val) / 32 = h.val
  omega

/-- A sum over all selected rows, regrouped by head. -/
theorem sum_sel (F : Fin 512 → EReal) : ∑ r, F r = ∑ h, ∑ n, F (sel h n) := by
  rw [← Fintype.sum_prod_type']
  refine (Fintype.sum_bijective (fun p : Fin 16 × Fin 32 => sel p.1 p.2) ⟨?_, ?_⟩ _ _ fun _ => rfl).symm
  · rintro ⟨a, b⟩ ⟨a', b'⟩ e
    have e' : a.val * 32 + b.val = a'.val * 32 + b'.val := congrArg Fin.val e
    exact Prod.ext (Fin.ext (by show a.val = a'.val; omega)) (Fin.ext (by show b.val = b'.val; omega))
  · intro r
    exact ⟨(⟨r.val / 32, by omega⟩, ⟨r.val % 32, by omega⟩), Fin.ext (by show r.val / 32 * 32 + r.val % 32 = r.val; omega)⟩

/-- A sum over all columns, regrouped by head. -/
theorem sum_col (F : Fin 1024 → EReal) : ∑ r, F r = ∑ h, ∑ d, F (col h d) := by
  rw [← Fintype.sum_prod_type']
  refine (Fintype.sum_bijective (fun p : Fin 16 × Fin 64 => col p.1 p.2) ⟨?_, ?_⟩ _ _ fun _ => rfl).symm
  · rintro ⟨a, b⟩ ⟨a', b'⟩ e
    have e' : a.val * 64 + b.val = a'.val * 64 + b'.val := congrArg Fin.val e
    exact Prod.ext (Fin.ext (by show a.val = a'.val; omega)) (Fin.ext (by show b.val = b'.val; omega))
  · intro r
    exact ⟨(⟨r.val / 64, by omega⟩, ⟨r.val % 64, by omega⟩), Fin.ext (by show r.val / 64 * 64 + r.val % 64 = r.val; omega)⟩

end Cert.Words

end
-- ==== Proof.TopkMath.lean ====
/- Taking the largest entries of a row one at a time gives the prefix of the stable descending sort. -/
module

public import Idealize.ShloMosaic.Lib.SortPrefix
public import Idealize.ShloMosaic.Lib.Pointwise

@[expose] public section

noncomputable section

namespace Cert.Topk

open Idealize.ShloMosaic

variable {n : ℕ}

/-- `i` is the first position at which `f` attains its greatest value. -/
def IsFirstMax (f : Fin n → EReal) (i : Fin n) : Prop :=
  (∀ j, f j ≤ f i) ∧ ∀ j, f j = f i → i ≤ j

/-- Every row has a first position of its maximum. -/
theorem exists_isFirstMax [NeZero n] (f : Fin n → EReal) : ∃ i, IsFirstMax f i := by
  classical
  obtain ⟨m, hm⟩ := Finite.exists_max f
  let s := Finset.univ.filter fun j => f j = f m
  have hs : s.Nonempty := ⟨m, by simp [s]⟩
  refine ⟨s.min' hs, fun j => ?_, fun j hj => ?_⟩
  · have := s.min'_mem hs
    simp only [s, Finset.mem_filter, Finset.mem_univ, true_and] at this
    rw [this]; exact hm j
  · have := s.min'_mem hs
    simp only [s, Finset.mem_filter, Finset.mem_univ, true_and] at this
    exact s.min'_le j (by simp [s, hj, this])

/-- There is only one first position of the maximum. -/
theorem IsFirstMax.unique {f : Fin n → EReal} {i j : Fin n} (hi : IsFirstMax f i) (hj : IsFirstMax f j) : i = j :=
  have h : f i = f j := le_antisymm (hj.1 i) (hi.1 j)
  le_antisymm (hi.2 j h.symm) (hj.2 i h)

variable [NeZero n]

/-- The first position of the greatest value. -/
def firstMax (f : Fin n → EReal) : Fin n := (exists_isFirstMax f).choose

/-- The chosen position is the first of the maximum. -/
theorem firstMax_spec (f : Fin n → EReal) : IsFirstMax f (firstMax f) := (exists_isFirstMax f).choose_spec

/-- The row after its greatest entry has been taken `k` times, an entry that was taken reading minus infinity. -/
def masked (f : Fin n → EReal) : ℕ → Fin n → EReal
  | 0 => f
  | k + 1 => fun l => if l = firstMax (masked f k) then ⊥ else masked f k l

/-- The position taken in round `k`. -/
def pick (f : Fin n → EReal) (k : ℕ) : Fin n := firstMax (masked f k)

/-- A position taken earlier reads minus infinity. -/
theorem masked_of_taken (f : Fin n → EReal) (k j : ℕ) (h : j < k) : masked f k (pick f j) = ⊥ := by
  induction k with
  | zero => omega
  | succ k ih =>
    show (if _ then _ else _) = _
    split
    · rfl
    · rename_i hne
      rcases Nat.lt_succ_iff_lt_or_eq.mp h with h | h
      · exact ih h
      · subst h; exact absurd rfl hne

/-- A position not yet taken reads its own entry. -/
theorem masked_of_left (f : Fin n → EReal) (k : ℕ) (l : Fin n) (h : ∀ j < k, pick f j ≠ l) : masked f k l = f l := by
  induction k with
  | zero => rfl
  | succ k ih =>
    show (if _ then _ else _) = _
    rw [if_neg fun e => h k (Nat.lt_succ_self k) e.symm]
    exact ih fun j hj => h j (Nat.lt_succ_of_lt hj)

/-- Fewer rounds than positions leave a position. -/
theorem exists_left (f : Fin n → EReal) (k : ℕ) (hk : k < n) : ∃ l, ∀ j < k, pick f j ≠ l := by
  classical
  by_contra hc
  push Not at hc
  have hsub : (Finset.univ : Finset (Fin n)) ⊆ (Finset.range k).image (pick f) := fun l _ => by
    obtain ⟨j, hj, e⟩ := hc l
    exact Finset.mem_image.mpr ⟨j, Finset.mem_range.mpr hj, e⟩
  have := (Finset.card_le_card hsub).trans Finset.card_image_le
  simp at this
  omega

variable {f : Fin n → EReal} (hf : ∀ l, f l ≠ ⊥)
include hf

/-- No position is taken twice. -/
theorem pick_ne {j k : ℕ} (hk : k < n) (hj : j < k) : pick f j ≠ pick f k := fun e => by
  obtain ⟨l, hl⟩ := exists_left f k hk
  have h1 := (firstMax_spec (masked f k)).1 l
  rw [masked_of_left f k l hl] at h1
  have h2 : masked f k (firstMax (masked f k)) = ⊥ := by
    have := masked_of_taken f k j hj
    rwa [e] at this
  rw [h2] at h1
  exact hf l (le_bot_iff.mp h1)

/-- Where no entry is minus infinity, no position is taken twice. -/
theorem pick_injective {j k : ℕ} (hj : j < n) (hk : k < n) (e : pick f j = pick f k) : j = k := by
  rcases lt_trichotomy j k with h | h | h
  · exact absurd e (pick_ne hf hk h)
  · exact h
  · exact absurd e.symm (pick_ne hf hj h)

/-- The position taken in round `k` holds the greatest value among the positions left, and is the first that does. -/
theorem pick_first {k : ℕ} (hk : k < n) (l : Fin n) (hl : ∀ j < k, pick f j ≠ l) :
    f l ≤ f (pick f k) ∧ (f l = f (pick f k) → pick f k ≤ l) := by
  have hm : masked f k (pick f k) = f (pick f k) := masked_of_left f k _ fun j hj => pick_ne hf hk hj
  have hs := firstMax_spec (masked f k)
  have h1 := hs.1 l
  have h2 := hs.2 l
  rw [masked_of_left f k l hl] at h1 h2
  exact ⟨h1.trans_eq hm, fun e => h2 (e.trans hm.symm)⟩

omit hf [NeZero n] in
/-- A stable descending sort of increasing positions is the sort that breaks ties by position. -/
theorem stableSort_refine (f : Fin n → EReal) (l : List (Fin n)) (hl : l.Pairwise (· < ·)) :
    stableSort (fun a b => decide (f b < f a)) l
      = stableSort (fun a b => decide (f b < f a) || (decide (f a = f b) && decide (a < b))) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp [not_lt.mpr hab.le]

/-- The stable descending sort of the row begins with the positions taken round by round. -/
theorem sortedFrom_eq_pick {k : ℕ} (hk : k ≤ n) (i : Fin k) :
    sortedFrom (fun a b => decide (f b < f a)) (i.castLE hk) = pick f i.val := by
  have hR : sortedFrom (fun a b : Fin n => decide (f b < f a))
      = sortedFrom (fun a b => decide (f b < f a) || (decide (f a = f b) && decide (a < b))) := by
    have hs : sortPositions n (fun a b : Fin n => decide (f b < f a))
        = sortPositions n (fun a b => decide (f b < f a) || (decide (f a = f b) && decide (a < b))) :=
      stableSort_refine f _ (List.pairwise_lt_finRange n)
    funext i
    unfold sortedFrom
    simp only [hs, List.get_eq_getElem, Fin.val_cast]
  rw [hR]
  refine StrictTotalBefore.sortedFrom_eq_of_prefix ?_ hk (fun i : Fin k => pick f i.val) ?_ ?_ ?_ i
  · refine ⟨fun a => by simp, fun a b c hab hbc => ?_, fun a b hne => ?_⟩
    · simp only [Bool.or_eq_true, Bool.and_eq_true, decide_eq_true_eq] at *
      rcases hab with h | ⟨h, h'⟩ <;> rcases hbc with g | ⟨g, g'⟩
      · exact .inl (g.trans h)
      · exact .inl (g ▸ h)
      · exact .inl (h ▸ g)
      · exact .inr ⟨h.trans g, h'.trans g'⟩
    · simp only [Bool.or_eq_true, Bool.and_eq_true, decide_eq_true_eq]
      rcases lt_trichotomy (f a) (f b) with h | h | h
      · exact .inr (.inl h)
      · rcases lt_or_gt_of_ne hne with g | g
        · exact .inl (.inr ⟨h, g⟩)
        · exact .inr (.inr ⟨h.symm, g⟩)
      · exact .inl (.inl h)
  · intro a b e
    exact Fin.ext (pick_injective hf (a.isLt.trans_le hk) (b.isLt.trans_le hk) e)
  · intro a b hab
    have hl : ∀ j < a.val, pick f j ≠ pick f b.val := fun j hj => pick_ne hf (b.isLt.trans_le hk) (hj.trans hab)
    obtain ⟨h1, h2⟩ := pick_first hf (a.isLt.trans_le hk) (pick f b.val) hl
    simp only [Bool.or_eq_false_iff, Bool.and_eq_false_iff, decide_eq_false_iff_not]
    refine ⟨not_lt.mpr h1, ?_⟩
    by_cases e : f (pick f b.val) = f (pick f a.val)
    · exact .inr (not_lt.mpr (h2 e))
    · exact .inl e
  · intro a p hp
    have hl : ∀ j < a.val, pick f j ≠ p := fun j hj => hp ⟨j, hj.trans a.isLt⟩
    obtain ⟨h1, h2⟩ := pick_first hf (a.isLt.trans_le hk) p hl
    simp only [Bool.or_eq_false_iff, Bool.and_eq_false_iff, decide_eq_false_iff_not]
    refine ⟨not_lt.mpr h1, ?_⟩
    by_cases e : f p = f (pick f a.val)
    · exact .inr (not_lt.mpr (h2 e))
    · exact .inl e

omit hf in
/-- The smallest position word among those at the row's greatest value is the first position's. -/
theorem fold_minsi_eq (f : Fin 2048 → EReal) :
    (Finset.univ : Finset (Fin 2048)).fold IntOp.minsi 2147483647#32
        (fun l => if f l = Finset.univ.fold max ⊥ f then BitVec.ofNat 32 l.val else 2048#32)
      = BitVec.ofNat 32 (firstMax f).val := by
  obtain ⟨h1, h2⟩ := firstMax_spec f
  have hmax : Finset.univ.fold max ⊥ f = f (firstMax f) :=
    le_antisymm (Finset.fold_max_le _ |>.mpr ⟨bot_le, fun j _ => h1 j⟩)
      (Finset.le_fold_max _ |>.mpr (.inr ⟨_, Finset.mem_univ _, le_rfl⟩))
  rw [hmax]
  have hmin : ∀ a b : BitVec 32, (IntOp.minsi a b).toInt = min a.toInt b.toInt := fun a b => by
    unfold IntOp.minsi
    by_cases h : a.toInt < b.toInt
    · simp [BitVec.slt, h, h.le]
    · simp [BitVec.slt, h, not_lt.mp h]
  have hnat : ∀ l : Fin 2048, (BitVec.ofNat 32 l.val).toInt = (l.val : ℤ) := by decide +kernel
  apply BitVec.eq_of_toInt_eq
  rw [← Finset.fold_hom (op := IntOp.minsi) (op' := min) (m := BitVec.toInt) (fun a b => hmin a b)]
  refine le_antisymm ?_ ?_
  · refine Finset.fold_min_le _ |>.mpr (.inr ⟨firstMax f, Finset.mem_univ _, ?_⟩)
    rw [if_pos rfl]
  · refine Finset.le_fold_min _ |>.mpr ⟨?_, fun l _ => ?_⟩
    · rw [hnat]; have := (firstMax f).isLt
      have h : (2147483647#32).toInt = 2147483647 := by decide
      omega
    · rw [hnat]
      split
      · rename_i e
        rw [hnat]; exact_mod_cast h2 l e
      · have := (firstMax f).isLt
        have h : (2048#32).toInt = 2048 := by decide
        omega

end Cert.Topk

end
-- ==== Proof.Whole.lean ====
/- The attention of the whole problem, written over coordinates: batch, head, position, column. -/
module

public import proofs.«01_k».proof.Proof.Spec
public import proofs.«01_k».proof.Proof.TopkMath

@[expose] public section

noncomputable section

namespace Cert.Spec

open Idealize.ShloMosaic

/-- A batched array split into heads by a projection. -/
def heads (x : Fin 4 → Fin 2048 → Fin 1024 → EReal) (w : Fin 1024 → Fin 16 → Fin 64 → EReal) (b : Fin 16 → Fin 64 → EReal)
    (B : Fin 4) (h : Fin 16) (l : Fin 2048) (d : Fin 64) : EReal :=
  proj (x B l) (fun k => w k h d) (b h d)

/-- A head's sparsity measure over the queries. -/
def measures (q k : Fin 4 → Fin 16 → Fin 2048 → Fin 64 → EReal) (B : Fin 4) (h : Fin 16) (l : Fin 2048) : EReal :=
  measure (fun n d => k B h (sample n) d) fun d => q B h l d

/-- The query selected in round `n`: the greatest measure among the queries not selected before. -/
def picked (q k : Fin 4 → Fin 16 → Fin 2048 → Fin 64 → EReal) (B : Fin 4) (h : Fin 16) (n : Fin 32) : Fin 2048 :=
  Cert.Topk.pick (fun l => measures q k B h l) n.val

open Classical in
/-- A head's context: attention at the selected queries, the mean of the values at the others. -/
def ctx (q k v : Fin 4 → Fin 16 → Fin 2048 → Fin 64 → EReal) (B : Fin 4) (h : Fin 16) (l : Fin 2048) (d : Fin 64) : EReal :=
  if ∃ n, picked q k B h n = l then context (fun d => q B h l d) (fun l d => k B h l d) (fun l d => v B h l d) d
  else colMean fun l' => v B h l' d

/-- The row handed to the feed-forward block: the query plus the projected context. -/
def attnRow (x : Fin 4 → Fin 2048 → Fin 1024 → EReal) (q k v : Fin 4 → Fin 16 → Fin 2048 → Fin 64 → EReal)
    (wo : Fin 16 → Fin 64 → Fin 1024 → EReal) (bo : Fin 1024 → EReal) (B : Fin 4) (l : Fin 2048) (o : Fin 1024) : EReal :=
  x B l o + ((∑ h, ∑ d, ctx q k v B h l d * wo h d o) + bo o)

/-- The same row as the kernel forms it: the mean's projection everywhere, plus a correction at the selected queries. -/
def corrRow (x : Fin 4 → Fin 2048 → Fin 1024 → EReal) (q k v : Fin 4 → Fin 16 → Fin 2048 → Fin 64 → EReal)
    (wo : Fin 16 → Fin 64 → Fin 1024 → EReal) (bo : Fin 1024 → EReal) (B : Fin 4) (l : Fin 2048) (o : Fin 1024) : EReal :=
  (x B l o + ∑ h, ∑ n, (if l = picked q k B h n then (1 : EReal) else 0)
      * ∑ d, (context (fun d => q B h (picked q k B h n) d) (fun l d => k B h l d) (fun l d => v B h l d) d
          - colMean fun l' => v B h l' d) * wo h d o)
    + ((∑ h, ∑ d, (colMean fun l' => v B h l' d) * wo h d o) + bo o)

/-- The heads of an array of rows under a projection given as arrays. -/
def headsOf (x : (⟨3, ![4, 2048, 1024]⟩ : Shape).Idx → EReal) (w : (⟨3, ![1024, 16, 64]⟩ : Shape).Idx → EReal)
    (b : (⟨2, ![16, 64]⟩ : Shape).Idx → EReal) : Fin 4 → Fin 16 → Fin 2048 → Fin 64 → EReal :=
  heads (fun B l k => x (ix3 B l k)) (fun k h d => w (ix3 k h d)) fun h d => b (ix2 h d)

/-- The whole block at one output entry, from the nineteen argument arrays; `row` says how the row handed to the
    feed-forward block is formed. -/
def block (row : (Fin 4 → Fin 2048 → Fin 1024 → EReal) → (Fin 4 → Fin 16 → Fin 2048 → Fin 64 → EReal)
      → (Fin 4 → Fin 16 → Fin 2048 → Fin 64 → EReal) → (Fin 4 → Fin 16 → Fin 2048 → Fin 64 → EReal)
      → (Fin 16 → Fin 64 → Fin 1024 → EReal) → (Fin 1024 → EReal) → Fin 4 → Fin 2048 → Fin 1024 → EReal)
    (a0 a1 a2 : (⟨3, ![4, 2048, 1024]⟩ : Shape).Idx → EReal) (a3 : (⟨3, ![1024, 16, 64]⟩ : Shape).Idx → EReal)
    (a4 : (⟨2, ![16, 64]⟩ : Shape).Idx → EReal) (a5 : (⟨3, ![1024, 16, 64]⟩ : Shape).Idx → EReal)
    (a6 : (⟨2, ![16, 64]⟩ : Shape).Idx → EReal) (a7 : (⟨3, ![1024, 16, 64]⟩ : Shape).Idx → EReal)
    (a8 : (⟨2, ![16, 64]⟩ : Shape).Idx → EReal) (a9 : (⟨3, ![16, 64, 1024]⟩ : Shape).Idx → EReal)
    (a10 a11 a12 : (⟨1, ![1024]⟩ : Shape).Idx → EReal) (a13 : (⟨2, ![1024, 4096]⟩ : Shape).Idx → EReal)
    (a14 : (⟨1, ![4096]⟩ : Shape).Idx → EReal) (a15 : (⟨2, ![4096, 1024]⟩ : Shape).Idx → EReal)
    (a16 a17 a18 : (⟨1, ![1024]⟩ : Shape).Idx → EReal) (B : Fin 4) (l : Fin 2048) (o : Fin 1024) : EReal :=
  ffnRow (row (fun B l k => a0 (ix3 B l k)) (headsOf a0 a3 a4) (headsOf a1 a5 a6) (headsOf a2 a7 a8)
      (fun h d o => a9 (ix3 h d o)) (fun o => a10 (ix1 o)) B l)
    (fun k => a11 (ix1 k)) (fun k => a12 (ix1 k)) (fun k j => a13 (ix2 k j)) (fun j => a14 (ix1 j))
    (fun j k => a15 (ix2 j k)) (fun k => a16 (ix1 k)) (fun k => a17 (ix1 k)) (fun k => a18 (ix1 k)) o

end Cert.Spec

end
-- ==== Proof.ProjBlock.lean ====
/- What one block of the kernel's projection call computes at an index. -/
module

public import proofs.«01_k».proof.Proof.Gen.KernelIdeal.Skeleton
public import proofs.«01_k».proof.Proof.Spec

@[expose] public section

set_option maxRecDepth 16384

noncomputable section

namespace Cert.KernelIdeal.Proj

open Idealize.ShloMosaic Cert.KernelIdeal.Gen Cert.Spec

/-- The query projection of a block of rows. -/
theorem pay2_apply (v0 : Vec Ideal S1024x1024 .f32) (v3 : Vec Ideal S1024x1024 .bf16) (v6 : Vec Ideal S1x1024 .f32) (r o : Fin 1024) :
    k0_pay2 (F := Ideal) v0 v3 v6 (ix2 r o) = proj (fun k => v0 (ix2 r k)) (fun k => v3 (ix2 k o)) (v6 (ix2 0 o)) := by
  pointwise [k0_pay2]
  rfl

/-- The key projection of a block of rows. -/
theorem pay3_apply (v0 : Vec Ideal S1024x1024 .f32) (v3 : Vec Ideal S1024x1024 .bf16) (v6 : Vec Ideal S1x1024 .f32) (r o : Fin 1024) :
    k0_pay3 (F := Ideal) v0 v3 v6 (ix2 r o) = proj (fun k => v0 (ix2 r k)) (fun k => v3 (ix2 k o)) (v6 (ix2 0 o)) := by
  pointwise [k0_pay3]
  rfl

/-- The value projection of a block of rows. -/
theorem pay1_apply (v0 : Vec Ideal S1024x1024 .f32) (v3 : Vec Ideal S1024x1024 .bf16) (v6 : Vec Ideal S1x1024 .f32) (r o : Fin 1024) :
    k0_pay1 (F := Ideal) (k0_pay4 v0 v3) (k0_pay5 v6) (ix2 r o) = proj (fun k => v0 (ix2 r k)) (fun k => v3 (ix2 k o)) (v6 (ix2 0 o)) := by
  pointwise [k0_pay1, k0_pay4, k0_pay5]
  rfl

end Cert.KernelIdeal.Proj

end
-- ==== Proof.ProjArray.lean ====
/- What the projection call leaves in its three result arrays. -/
module

public import proofs.«01_k».proof.Proof.Gen.KernelIdeal.Frame
public import proofs.«01_k».proof.Proof.ProjBlock
public import Idealize.ShloMosaic.Lib.Pipeline.ValueKit

@[expose] public section

set_option maxRecDepth 16384

noncomputable section

namespace Cert.KernelIdeal.Proj

open Idealize.ShloMosaic Idealize.ShloMosaic.TcCoe Idealize.ShloMosaic.Tactic Cert.KernelIdeal.Gen Cert.Spec

variable (V : (c : Dev nD) → (b : Ref sig .tc) → Buf (Elt Ideal) ((c : Thread nD τ).loc b))

/-- A projected array at row `i 0`, column `i 1`. -/
def arr (x : S8192x1024.Idx → EReal) (w : S1024x1024.Idx → EReal) (b : S1x1024.Idx → EReal) (i : S8192x1024.Idx) : EReal :=
  proj (fun k => x (ix2 (i 0) k)) (fun k => w (ix2 k (i 1))) (b (ix2 0 (i 1)))

set_option maxHeartbeats 2000000 in
/-- The query projection's array. -/
theorem arrAt_query (c : Dev nD) : (dat0 V c).arrAt 9 cfg0.N = arr (V c main_v0) (V c main_v4) (V c main_v5) := by
  refine (dat0 V c).arrAt_eq_of_covers 9 _ (by decide +kernel) fun t hf y => ?_
  blk_simp
  rw [after0_9]
  unfold out0_9
  frame_out
  idx_vars y
  rw [pay2_apply]
  have ht : t.val < 8 := t.isLt
  obtain ⟨R, hR⟩ : ∃ R : Fin 8192, R.val = t.val * 1024 + y0.val := ⟨⟨t.val * 1024 + y0.val, by omega⟩, rfl⟩
  have bx : ∀ (k : Fin 1024), (win0_0.blk t).view.emb (ix2 y0 k) = ix2 R k := fun k => by
    blk_ext [(by decide +kernel : ∀ t : Fin grid0.N, win0_0.index t = ![t.val, 0]) t, hR]
  have bw : ∀ (a : Fin 1024) (b : Fin 1024), (win0_3.blk t).view.emb (ix2 a b) = ix2 a b := fun a b => by
    blk_ext [(by decide +kernel : ∀ t : Fin grid0.N, win0_3.index t = ![0, 0]) t]
  have bb : ∀ (a : Fin 1) (b : Fin 1024), (win0_4.blk t).view.emb (ix2 a b) = ix2 a b := fun a b => by
    blk_ext [(by decide +kernel : ∀ t : Fin grid0.N, win0_4.index t = ![0, 0]) t]
  have bo : (win0_9.blk t).view.emb (ix2 y0 y1) = ix2 R y1 := by
    blk_ext [(by decide +kernel : ∀ t : Fin grid0.N, win0_9.index t = ![t.val, 0]) t, hR]
  blk_simp [iblk0]
  rw [bo]
  simp only [bx, bw, bb]
  rfl

set_option maxHeartbeats 2000000 in
/-- The key projection's array. -/
theorem arrAt_key (c : Dev nD) : (dat0 V c).arrAt 10 cfg0.N = arr (V c main_v1) (V c main_v7) (V c main_v8) := by
  refine (dat0 V c).arrAt_eq_of_covers 10 _ (by decide +kernel) fun t hf y => ?_
  blk_simp
  rw [after0_10]
  unfold out0_10
  frame_out
  idx_vars y
  rw [pay3_apply]
  have ht : t.val < 8 := t.isLt
  obtain ⟨R, hR⟩ : ∃ R : Fin 8192, R.val = t.val * 1024 + y0.val := ⟨⟨t.val * 1024 + y0.val, by omega⟩, rfl⟩
  have bx : ∀ (k : Fin 1024), (win0_1.blk t).view.emb (ix2 y0 k) = ix2 R k := fun k => by
    blk_ext [(by decide +kernel : ∀ t : Fin grid0.N, win0_1.index t = ![t.val, 0]) t, hR]
  have bw : ∀ (a : Fin 1024) (b : Fin 1024), (win0_5.blk t).view.emb (ix2 a b) = ix2 a b := fun a b => by
    blk_ext [(by decide +kernel : ∀ t : Fin grid0.N, win0_5.index t = ![0, 0]) t]
  have bb : ∀ (a : Fin 1) (b : Fin 1024), (win0_6.blk t).view.emb (ix2 a b) = ix2 a b := fun a b => by
    blk_ext [(by decide +kernel : ∀ t : Fin grid0.N, win0_6.index t = ![0, 0]) t]
  have bo : (win0_10.blk t).view.emb (ix2 y0 y1) = ix2 R y1 := by
    blk_ext [(by decide +kernel : ∀ t : Fin grid0.N, win0_10.index t = ![t.val, 0]) t, hR]
  blk_simp [iblk0]
  rw [bo]
  simp only [bx, bw, bb]
  rfl

set_option maxHeartbeats 2000000 in
/-- The value projection's array. -/
theorem arrAt_value (c : Dev nD) : (dat0 V c).arrAt 11 cfg0.N = arr (V c main_v2) (V c main_v10) (V c main_v11) := by
  refine (dat0 V c).arrAt_eq_of_covers 11 _ (by decide +kernel) fun t hf y => ?_
  blk_simp
  rw [after0_11]
  unfold out0_11
  frame_out
  idx_vars y
  rw [pay1_apply]
  have ht : t.val < 8 := t.isLt
  obtain ⟨R, hR⟩ : ∃ R : Fin 8192, R.val = t.val * 1024 + y0.val := ⟨⟨t.val * 1024 + y0.val, by omega⟩, rfl⟩
  have bx : ∀ (k : Fin 1024), (win0_2.blk t).view.emb (ix2 y0 k) = ix2 R k := fun k => by
    blk_ext [(by decide +kernel : ∀ t : Fin grid0.N, win0_2.index t = ![t.val, 0]) t, hR]
  have bw : ∀ (a : Fin 1024) (b : Fin 1024), (win0_7.blk t).view.emb (ix2 a b) = ix2 a b := fun a b => by
    blk_ext [(by decide +kernel : ∀ t : Fin grid0.N, win0_7.index t = ![0, 0]) t]
  have bb : ∀ (a : Fin 1) (b : Fin 1024), (win0_8.blk t).view.emb (ix2 a b) = ix2 a b := fun a b => by
    blk_ext [(by decide +kernel : ∀ t : Fin grid0.N, win0_8.index t = ![0, 0]) t]
  have bo : (win0_11.blk t).view.emb (ix2 y0 y1) = ix2 R y1 := by
    blk_ext [(by decide +kernel : ∀ t : Fin grid0.N, win0_11.index t = ![t.val, 0]) t, hR]
  blk_simp [iblk0]
  rw [bo]
  simp only [bx, bw, bb]
  rfl

end Cert.KernelIdeal.Proj

end
-- ==== Proof.MeasureBlock.lean ====
/- What one block of the kernel's measuring call computes at an index. -/
module

public import proofs.«01_k».proof.Proof.Gen.KernelIdeal.Frame
public import proofs.«01_k».proof.Proof.Spec
public import proofs.«01_k».proof.Proof.Words
public import Idealize.ShloMosaic.Lib.Pipeline.ValueKit

@[expose] public section

set_option maxRecDepth 16384

noncomputable section

namespace Cert.KernelIdeal.Measure

open Idealize.ShloMosaic Cert.KernelIdeal.Gen Cert.Spec Cert.Words

/-- The largest product less the mean of the products. -/
theorem pay1_apply (v : FVec Ideal S16x32x2048 .f32) (h : Fin 16) (l : Fin 2048) :
    k1_pay1 v (ix2 h l) = Finset.univ.fold max ⊥ (fun n : Fin 32 => v (ix3 h n l))
      - Ideal.div (∑ n : Fin 32, v (ix3 h n l)) (Ideal.ofBits FTy.f32 0x42000000#32) := by
  pointwise [k1_pay1]
  rw [negInf]

/-- The products of a query with the sampled keys of one head. -/
theorem pay29_apply (v1 : FVec Ideal S2048x1024 .bf16) (v67 : FVec Ideal S512x1024 .bf16) (h : Fin 16) (n : Fin 32) (l : Fin 2048) :
    k1_pay29 (F := Ideal) v1 v67 (iota .tc S512x1024 32 [0] iota_S512x1024_d0_w32) (iota .tc S512x1024 32 [1] iota_S512x1024_d1_w32) 32#32 k1_pay26 k1_pay27 k1_pay28 (ix3 h n l)
      = ∑ d : Fin 64, v67 (ix2 ⟨h.val * 32 + n.val, by omega⟩ (col h d)) * v1 (ix2 l (col h d)) := by
  pointwise [k1_pay29, k1_pay26, k1_pay27, k1_pay28]
  simp only [headRow₂, headCol, select_cmpi_eq]
  exact sum_head (fun j => v67 (ix2 ⟨h.val * 32 + n.val, by omega⟩ j) * v1 (ix2 l j)) h _ rfl

end Cert.KernelIdeal.Measure

end
-- ==== Proof.MeasureOut.lean ====
/- What one block of the kernel's measuring call stores: the measure of every query. -/
module

public import proofs.«01_k».proof.Proof.MeasureBlock

@[expose] public section

set_option maxRecDepth 16384

noncomputable section

namespace Cert.KernelIdeal.Measure

open Idealize.ShloMosaic Cert.KernelIdeal.Gen Cert.Spec Cert.Words

/-- The selected keys, one copy for every head. -/
def keys (x1 : Vec Ideal S1x2048x1024 .bf16) : FVec Ideal S512x1024 .bf16 :=
  k1_pay25 (k1_pay3 (View.ld x1 r1_1)) (k1_pay4 (View.ld x1 r1_2)) (k1_pay5 (View.ld x1 r1_3)) (k1_pay6 (View.ld x1 r1_4)) (k1_pay7 (View.ld x1 r1_5)) (k1_pay8 (View.ld x1 r1_6)) (k1_pay9 (View.ld x1 r1_7)) (k1_pay10 (View.ld x1 r1_8)) (k1_pay11 (View.ld x1 r1_9)) (k1_pay12 (View.ld x1 r1_10)) (k1_pay13 (View.ld x1 r1_11)) (k1_pay14 (View.ld x1 r1_12)) (k1_pay15 (View.ld x1 r1_13)) (k1_pay16 (View.ld x1 r1_14)) (k1_pay17 (View.ld x1 r1_15)) (k1_pay18 (View.ld x1 r1_16)) (k1_pay19 (View.ld x1 r1_17)) (k1_pay20 (View.ld x1 r1_18)) (k1_pay21 (View.ld x1 r1_19)) (k1_pay22 (View.ld x1 r1_20)) (k1_pay23 (View.ld x1 r1_21)) (k1_pay24 (View.ld x1 r1_22)) (View.ld x1 r1_23) (View.ld x1 r1_24) (View.ld x1 r1_25) (View.ld x1 r1_26) (View.ld x1 r1_27) (View.ld x1 r1_28) (View.ld x1 r1_29) (View.ld x1 r1_30) (View.ld x1 r1_31) (View.ld x1 r1_32)

/-- Row `n` of head `h`'s copy is the sampled key `n`. -/
theorem keys_apply (x1 : Vec Ideal S1x2048x1024 .bf16) (h : Fin 16) (n : Fin 32) (j : Fin 1024) :
    keys x1 (ix2 ⟨h.val * 32 + n.val, by omega⟩ j) = x1 (ix3 0 (sample n) j) := by
  unfold keys k1_pay25
  refine (concatenate_replicate_apply (0 : Fin S512x1024.rank) 16 _ concatenates_S32x1024_S32x1024_S32x1024_S32x1024_S32x1024_S32x1024_S32x1024_S32x1024_S32x1024_S32x1024_S32x1024_S32x1024_S32x1024_S32x1024_S32x1024_S32x1024_S512x1024_d0
    rfl _ (ix2 n j) ?_ ?_).trans ?_
  · show n.val = (h.val * 32 + n.val) % 32
    omega
  · intro b hb
    fin_cases b
    · exact absurd rfl hb
    · rfl
  · fin_cases n <;> pointwise [k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24] <;> rfl

/-- What a block stores at a head and a query: the measure. -/
theorem out_apply (x0 x1 : Vec Ideal S1x2048x1024 .bf16) (h : Fin 16) (l : Fin 2048) :
    out1_2 x0 x1 (ix2 h l) = measure (fun n d => x1 (ix3 0 (sample n) (col h d))) fun d => x0 (ix3 0 l (col h d)) := by
  unfold out1_2
  frame_out
  rw [pay1_apply]
  have e : ∀ n : Fin 32, k1_pay29 (k1_pay2 x0) (keys x1) (iota .tc S512x1024 32 [0] iota_S512x1024_d0_w32)
      (iota .tc S512x1024 32 [1] iota_S512x1024_d1_w32) 32#32 k1_pay26 k1_pay27 k1_pay28 (ix3 h n l)
      = ∑ d : Fin 64, x1 (ix3 0 (sample n) (col h d)) * x0 (ix3 0 l (col h d)) := fun n => by
    rw [pay29_apply]
    refine Finset.sum_congr rfl fun d _ => ?_
    rw [keys_apply]
    congr 1
    pointwise [k1_pay2]
  have e' := funext e
  unfold keys at e'
  refine (congrArg₂ (fun f g : Fin 32 → EReal => Finset.univ.fold max ⊥ f - Ideal.div (∑ n, g n) (Ideal.ofBits FTy.f32 0x42000000#32)) e' e').trans ?_
  rfl

end Cert.KernelIdeal.Measure

end
-- ==== Proof.MeasureArray.lean ====
/- What the measuring call leaves in its result array. -/
module

public import proofs.«01_k».proof.Proof.Gen.KernelIdeal.Frame
public import proofs.«01_k».proof.Proof.MeasureOut
public import Idealize.ShloMosaic.Lib.Pipeline.ValueKit

@[expose] public section

set_option maxRecDepth 16384

noncomputable section

namespace Cert.KernelIdeal.Measure

open Idealize.ShloMosaic Idealize.ShloMosaic.TcCoe Idealize.ShloMosaic.Tactic Cert.KernelIdeal.Gen Cert.Spec Cert.Words

variable (V : (c : Dev nD) → (b : Ref sig .tc) → Buf (Elt Ideal) ((c : Thread nD τ).loc b))

/-- The measure array at row `i 0` (batch times sixteen plus head), query `i 1`. -/
def arr (q k : S4x2048x1024.Idx → EReal) (i : S64x2048.Idx) : EReal :=
  measure (fun n d => k (ix3 ⟨(i 0).val / 16, by have := (i 0).isLt; simp at this; omega⟩ (sample n) (col ⟨(i 0).val % 16, by omega⟩ d)))
    fun d => q (ix3 ⟨(i 0).val / 16, by have := (i 0).isLt; simp at this; omega⟩ (i 1) (col ⟨(i 0).val % 16, by omega⟩ d))

/-- The measure array at head `h` of batch `B`, query `l`. -/
theorem arr_at (q k : S4x2048x1024.Idx → EReal) (B : Fin 4) (h : Fin 16) (l : Fin 2048) (R : Fin 64) (hR : R.val = B.val * 16 + h.val) :
    arr q k (ix2 R l) = measure (fun n d => k (ix3 B (sample n) (col h d))) fun d => q (ix3 B l (col h d)) := by
  have e1 : (⟨R.val / 16, by omega⟩ : Fin 4) = B := Fin.ext (by show R.val / 16 = B.val; omega)
  have e2 : (⟨R.val % 16, by omega⟩ : Fin 16) = h := Fin.ext (by show R.val % 16 = h.val; omega)
  show measure (fun n d => k (ix3 ⟨R.val / 16, _⟩ (sample n) (col ⟨R.val % 16, _⟩ d))) (fun d => q (ix3 ⟨R.val / 16, _⟩ l (col ⟨R.val % 16, _⟩ d))) = _
  rw [e1, e2]

set_option maxHeartbeats 2000000 in
/-- The array the measuring call leaves. -/
theorem arrAt_eq (c : Dev nD) : (dat1 V c).arrAt 2 cfg1.N = arr (V c main_v13) (V c main_v14) := by
  refine (dat1 V c).arrAt_eq_of_covers 2 _ (by decide +kernel) fun t hf y => ?_
  blk_simp
  rw [after1_2]
  idx_vars y
  rw [out_apply]
  have ht : t.val < 4 := t.isLt
  obtain ⟨B, hB⟩ : ∃ B : Fin 4, B.val = t.val := ⟨⟨t.val, ht⟩, rfl⟩
  obtain ⟨R, hR⟩ : ∃ R : Fin 64, R.val = t.val * 16 + y0.val := ⟨⟨t.val * 16 + y0.val, by omega⟩, rfl⟩
  have bq : ∀ (l : Fin 2048) (j : Fin 1024), (win1_0.blk t).view.emb (ix3 0 l j) = ix3 B l j := fun l j => by
    blk_ext [(by decide +kernel : ∀ t : Fin grid1.N, win1_0.index t = ![t.val, 0, 0]) t, hB]
  have bk : ∀ (l : Fin 2048) (j : Fin 1024), (win1_1.blk t).view.emb (ix3 0 l j) = ix3 B l j := fun l j => by
    blk_ext [(by decide +kernel : ∀ t : Fin grid1.N, win1_1.index t = ![t.val, 0, 0]) t, hB]
  have bo : (win1_2.blk t).view.emb (ix2 y0 y1) = ix2 R y1 := by
    blk_ext [(by decide +kernel : ∀ t : Fin grid1.N, win1_2.index t = ![t.val, 0]) t, hR]
  blk_simp [iblk1]
  rw [bo]
  simp only [bq, bk]
  exact (arr_at _ _ B y0 y1 R (by omega)).symm

end Cert.KernelIdeal.Measure

end
-- ==== Proof.TopkBlock.lean ====
/- What the top-k call of the kernel computes: thirty-two rounds, each taking the first position of the row's maximum
   and then masking that position. -/
module

public import proofs.«01_k».proof.Proof.Gen.KernelIdeal.Frame
public import proofs.«01_k».proof.Proof.TopkMath
public import proofs.«01_k».proof.Proof.Words
public import Idealize.ShloMosaic.Lib.Pipeline.ValueKit

@[expose] public section

set_option maxRecDepth 16384

noncomputable section

namespace Cert.KernelIdeal.Topk

open Idealize.ShloMosaic Cert.KernelIdeal.Gen

/-- One round's result: in every row the first position that holds the row's maximum. -/
def stepIdx (x : FVec Ideal S64x2048 .f32) : IVec S64x1 32 :=
  shapeCast S64x1 (multiReductionI .minsi [1] S64
    (select (cmpf .oeq x (broadcastTo S64x2048 (shapeCast S64x1 (multiReduction .maximumf [1] S64 x 0xFF800000#32 reduces_S64x2048_S64 (.inl rfl) rfl) shapeCasts_S64_S64x1) broadcasts_S64x1_S64x2048))
      (iota .tc S64x2048 32 [1] iota_S64x2048_d1_w32) (broadcast S64x2048 2048#32)) 2147483647#32 reduces_S64x2048_S64 rfl) shapeCasts_S64_S64x1

/-- One round's masking: the position the round took holds minus infinity from then on. -/
def stepMask (x : FVec Ideal S64x2048 .f32) : FVec Ideal S64x2048 .f32 :=
  select (cmpi .eq (iota .tc S64x2048 32 [1] iota_S64x2048_d1_w32) (broadcastTo S64x2048 (stepIdx x) broadcasts_S64x1_S64x2048))
    (broadcast S64x2048 (Scalar.ofBits (F := Ideal) .f32 0xFF800000#32)) x

/-- The rows after `k` rounds. -/
def state (x : FVec Ideal S64x2048 .f32) : ℕ → FVec Ideal S64x2048 .f32
  | 0 => x
  | k + 1 => stepMask (state x k)

variable (x : Vec Ideal S64x2048 .f32)

/-- Loading the whole block gives the block. -/
theorem ld_eq : View.ld x r2_0 = x := by
  funext y
  idx_vars y
  pointwise

/-- The masked row after 0 rounds. -/
theorem st_0 : k2_pay7 (View.ld x r2_0) = state x 0 := by
  funext y
  idx_vars y
  pointwise [k2_pay7]
  rfl

/-- The positions taken in round 0. -/
theorem ix_0 : k2_pay8 (View.ld x r2_0) = stepIdx (state x 0) :=
  (rfl : k2_pay8 (View.ld x r2_0) = stepIdx (k2_pay7 (View.ld x r2_0))).trans (congrArg stepIdx (st_0 x))

/-- The masked row after 1 round. -/
theorem st_1 : k2_pay9 (View.ld x r2_0) = state x 1 :=
  (rfl : k2_pay9 (View.ld x r2_0) = stepMask (k2_pay7 (View.ld x r2_0))).trans (congrArg stepMask (st_0 x))

/-- The positions taken in round 1. -/
theorem ix_1 : k2_pay10 (View.ld x r2_0) = stepIdx (state x 1) :=
  (rfl : k2_pay10 (View.ld x r2_0) = stepIdx (k2_pay9 (View.ld x r2_0))).trans (congrArg stepIdx (st_1 x))

/-- The masked row after 2 rounds. -/
theorem st_2 : k2_pay11 (View.ld x r2_0) = state x 2 :=
  (rfl : k2_pay11 (View.ld x r2_0) = stepMask (k2_pay9 (View.ld x r2_0))).trans (congrArg stepMask (st_1 x))

/-- The positions taken in round 2. -/
theorem ix_2 : k2_pay12 (View.ld x r2_0) = stepIdx (state x 2) :=
  (rfl : k2_pay12 (View.ld x r2_0) = stepIdx (k2_pay11 (View.ld x r2_0))).trans (congrArg stepIdx (st_2 x))

/-- The masked row after 3 rounds. -/
theorem st_3 : k2_pay75 x = state x 3 :=
  (rfl : k2_pay75 x = stepMask (k2_pay11 (View.ld x r2_0))).trans (congrArg stepMask (st_2 x))

/-- The positions taken in round 3. -/
theorem ix_3 : k2_pay15 (k2_pay74 x) (k2_pay76 x) 2048#32 = stepIdx (state x 3) :=
  (rfl : k2_pay15 (k2_pay74 x) (k2_pay76 x) 2048#32 = stepIdx (k2_pay75 x)).trans (congrArg stepIdx (st_3 x))

/-- The masked row after 4 rounds. -/
theorem st_4 : k2_pay16 (k2_pay74 x) (k2_pay75 x) (k2_pay76 x) 2048#32 = state x 4 :=
  (rfl : k2_pay16 (k2_pay74 x) (k2_pay75 x) (k2_pay76 x) 2048#32 = stepMask (k2_pay75 x)).trans (congrArg stepMask (st_3 x))

/-- The positions taken in round 4. -/
theorem ix_4 : k2_pay17 (k2_pay74 x) (k2_pay75 x) (k2_pay76 x) 2048#32 = stepIdx (state x 4) :=
  (rfl : k2_pay17 (k2_pay74 x) (k2_pay75 x) (k2_pay76 x) 2048#32 = stepIdx (k2_pay16 (k2_pay74 x) (k2_pay75 x) (k2_pay76 x) 2048#32)).trans (congrArg stepIdx (st_4 x))

/-- The masked row after 5 rounds. -/
theorem st_5 : k2_pay18 (k2_pay74 x) (k2_pay75 x) (k2_pay76 x) 2048#32 = state x 5 :=
  (rfl : k2_pay18 (k2_pay74 x) (k2_pay75 x) (k2_pay76 x) 2048#32 = stepMask (k2_pay16 (k2_pay74 x) (k2_pay75 x) (k2_pay76 x) 2048#32)).trans (congrArg stepMask (st_4 x))

/-- The positions taken in round 5. -/
theorem ix_5 : k2_pay19 (k2_pay74 x) (k2_pay75 x) (k2_pay76 x) 2048#32 = stepIdx (state x 5) :=
  (rfl : k2_pay19 (k2_pay74 x) (k2_pay75 x) (k2_pay76 x) 2048#32 = stepIdx (k2_pay18 (k2_pay74 x) (k2_pay75 x) (k2_pay76 x) 2048#32)).trans (congrArg stepIdx (st_5 x))

/-- The masked row after 6 rounds. -/
theorem st_6 : k2_pay20 (k2_pay74 x) (k2_pay75 x) (k2_pay76 x) 2048#32 = state x 6 :=
  (rfl : k2_pay20 (k2_pay74 x) (k2_pay75 x) (k2_pay76 x) 2048#32 = stepMask (k2_pay18 (k2_pay74 x) (k2_pay75 x) (k2_pay76 x) 2048#32)).trans (congrArg stepMask (st_5 x))

/-- The positions taken in round 6. -/
theorem ix_6 : k2_pay21 (k2_pay74 x) (k2_pay75 x) (k2_pay76 x) 2048#32 = stepIdx (state x 6) :=
  (rfl : k2_pay21 (k2_pay74 x) (k2_pay75 x) (k2_pay76 x) 2048#32 = stepIdx (k2_pay20 (k2_pay74 x) (k2_pay75 x) (k2_pay76 x) 2048#32)).trans (congrArg stepIdx (st_6 x))

/-- The masked row after 7 rounds. -/
theorem st_7 : k2_pay77 x = state x 7 :=
  (rfl : k2_pay77 x = stepMask (k2_pay20 (k2_pay74 x) (k2_pay75 x) (k2_pay76 x) 2048#32)).trans (congrArg stepMask (st_6 x))

/-- The positions taken in round 7. -/
theorem ix_7 : k2_pay24 (k2_pay74 x) (k2_pay77 x) (k2_pay78 x) = stepIdx (state x 7) :=
  (rfl : k2_pay24 (k2_pay74 x) (k2_pay77 x) (k2_pay78 x) = stepIdx (k2_pay77 x)).trans (congrArg stepIdx (st_7 x))

/-- The masked row after 8 rounds. -/
theorem st_8 : k2_pay25 (k2_pay74 x) (k2_pay77 x) (k2_pay78 x) = state x 8 :=
  (rfl : k2_pay25 (k2_pay74 x) (k2_pay77 x) (k2_pay78 x) = stepMask (k2_pay77 x)).trans (congrArg stepMask (st_7 x))

/-- The positions taken in round 8. -/
theorem ix_8 : k2_pay26 (k2_pay74 x) (k2_pay77 x) (k2_pay78 x) = stepIdx (state x 8) :=
  (rfl : k2_pay26 (k2_pay74 x) (k2_pay77 x) (k2_pay78 x) = stepIdx (k2_pay25 (k2_pay74 x) (k2_pay77 x) (k2_pay78 x))).trans (congrArg stepIdx (st_8 x))

/-- The masked row after 9 rounds. -/
theorem st_9 : k2_pay27 (k2_pay74 x) (k2_pay77 x) (k2_pay78 x) = state x 9 :=
  (rfl : k2_pay27 (k2_pay74 x) (k2_pay77 x) (k2_pay78 x) = stepMask (k2_pay25 (k2_pay74 x) (k2_pay77 x) (k2_pay78 x))).trans (congrArg stepMask (st_8 x))

/-- The positions taken in round 9. -/
theorem ix_9 : k2_pay28 (k2_pay74 x) (k2_pay77 x) (k2_pay78 x) = stepIdx (state x 9) :=
  (rfl : k2_pay28 (k2_pay74 x) (k2_pay77 x) (k2_pay78 x) = stepIdx (k2_pay27 (k2_pay74 x) (k2_pay77 x) (k2_pay78 x))).trans (congrArg stepIdx (st_9 x))

/-- The masked row after 10 rounds. -/
theorem st_10 : k2_pay79 x = state x 10 :=
  (rfl : k2_pay79 x = stepMask (k2_pay27 (k2_pay74 x) (k2_pay77 x) (k2_pay78 x))).trans (congrArg stepMask (st_9 x))

/-- The positions taken in round 10. -/
theorem ix_10 : k2_pay30 (k2_pay74 x) (k2_pay77 x) (k2_pay78 x) = stepIdx (state x 10) :=
  (rfl : k2_pay30 (k2_pay74 x) (k2_pay77 x) (k2_pay78 x) = stepIdx (k2_pay79 x)).trans (congrArg stepIdx (st_10 x))

/-- The masked row after 11 rounds. -/
theorem st_11 : k2_pay32 (k2_pay79 x) (k2_pay80 x) (FloatOps.ofBits .f32 0xFF800000#32) = state x 11 := by
  unfold k2_pay32 k2_pay80 k2_pay31
  rw [ix_10, st_10]
  rfl

/-- The positions taken in round 11. -/
theorem ix_11 : k2_pay33 (k2_pay74 x) (k2_pay79 x) (k2_pay80 x) (FloatOps.ofBits .f32 0xFF800000#32) = stepIdx (state x 11) :=
  (rfl : k2_pay33 (k2_pay74 x) (k2_pay79 x) (k2_pay80 x) (FloatOps.ofBits .f32 0xFF800000#32) = stepIdx (k2_pay32 (k2_pay79 x) (k2_pay80 x) (FloatOps.ofBits .f32 0xFF800000#32))).trans (congrArg stepIdx (st_11 x))

/-- The masked row after 12 rounds. -/
theorem st_12 : k2_pay34 (k2_pay74 x) (k2_pay79 x) (k2_pay80 x) (FloatOps.ofBits .f32 0xFF800000#32) = state x 12 :=
  (rfl : k2_pay34 (k2_pay74 x) (k2_pay79 x) (k2_pay80 x) (FloatOps.ofBits .f32 0xFF800000#32) = stepMask (k2_pay32 (k2_pay79 x) (k2_pay80 x) (FloatOps.ofBits .f32 0xFF800000#32))).trans (congrArg stepMask (st_11 x))

/-- The positions taken in round 12. -/
theorem ix_12 : k2_pay35 (k2_pay74 x) (k2_pay79 x) (k2_pay80 x) (FloatOps.ofBits .f32 0xFF800000#32) = stepIdx (state x 12) :=
  (rfl : k2_pay35 (k2_pay74 x) (k2_pay79 x) (k2_pay80 x) (FloatOps.ofBits .f32 0xFF800000#32) = stepIdx (k2_pay34 (k2_pay74 x) (k2_pay79 x) (k2_pay80 x) (FloatOps.ofBits .f32 0xFF800000#32))).trans (congrArg stepIdx (st_12 x))

/-- The masked row after 13 rounds. -/
theorem st_13 : k2_pay36 (k2_pay74 x) (k2_pay79 x) (k2_pay80 x) (FloatOps.ofBits .f32 0xFF800000#32) = state x 13 :=
  (rfl : k2_pay36 (k2_pay74 x) (k2_pay79 x) (k2_pay80 x) (FloatOps.ofBits .f32 0xFF800000#32) = stepMask (k2_pay34 (k2_pay74 x) (k2_pay79 x) (k2_pay80 x) (FloatOps.ofBits .f32 0xFF800000#32))).trans (congrArg stepMask (st_12 x))

/-- The positions taken in round 13. -/
theorem ix_13 : k2_pay37 (k2_pay74 x) (k2_pay79 x) (k2_pay80 x) (FloatOps.ofBits .f32 0xFF800000#32) = stepIdx (state x 13) :=
  (rfl : k2_pay37 (k2_pay74 x) (k2_pay79 x) (k2_pay80 x) (FloatOps.ofBits .f32 0xFF800000#32) = stepIdx (k2_pay36 (k2_pay74 x) (k2_pay79 x) (k2_pay80 x) (FloatOps.ofBits .f32 0xFF800000#32))).trans (congrArg stepIdx (st_13 x))

/-- The masked row after 14 rounds. -/
theorem st_14 : k2_pay81 x = state x 14 :=
  (rfl : k2_pay81 x = stepMask (k2_pay36 (k2_pay74 x) (k2_pay79 x) (k2_pay80 x) (FloatOps.ofBits .f32 0xFF800000#32))).trans (congrArg stepMask (st_13 x))

/-- The positions taken in round 14. -/
theorem ix_14 : k2_pay40 (k2_pay82 x) = stepIdx (state x 14) := by
  unfold k2_pay40 k2_pay82 k2_pay39
  rw [show k2_pay38 (k2_pay74 x) (k2_pay79 x) (k2_pay80 x) (FloatOps.ofBits .f32 0xFF800000#32) = state x 14 from st_14 x]
  rfl

/-- The masked row after 15 rounds. -/
theorem st_15 : k2_pay41 (k2_pay74 x) (k2_pay81 x) (k2_pay82 x) = state x 15 := by
  unfold k2_pay41
  rw [ix_14, st_14]
  rfl

/-- The positions taken in round 15. -/
theorem ix_15 : k2_pay42 (k2_pay74 x) (k2_pay81 x) (k2_pay82 x) = stepIdx (state x 15) :=
  (rfl : k2_pay42 (k2_pay74 x) (k2_pay81 x) (k2_pay82 x) = stepIdx (k2_pay41 (k2_pay74 x) (k2_pay81 x) (k2_pay82 x))).trans (congrArg stepIdx (st_15 x))

/-- The masked row after 16 rounds. -/
theorem st_16 : k2_pay43 (k2_pay74 x) (k2_pay81 x) (k2_pay82 x) = state x 16 :=
  (rfl : k2_pay43 (k2_pay74 x) (k2_pay81 x) (k2_pay82 x) = stepMask (k2_pay41 (k2_pay74 x) (k2_pay81 x) (k2_pay82 x))).trans (congrArg stepMask (st_15 x))

/-- The positions taken in round 16. -/
theorem ix_16 : k2_pay44 (k2_pay74 x) (k2_pay81 x) (k2_pay82 x) = stepIdx (state x 16) :=
  (rfl : k2_pay44 (k2_pay74 x) (k2_pay81 x) (k2_pay82 x) = stepIdx (k2_pay43 (k2_pay74 x) (k2_pay81 x) (k2_pay82 x))).trans (congrArg stepIdx (st_16 x))

/-- The masked row after 17 rounds. -/
theorem st_17 : k2_pay45 (k2_pay74 x) (k2_pay81 x) (k2_pay82 x) = state x 17 :=
  (rfl : k2_pay45 (k2_pay74 x) (k2_pay81 x) (k2_pay82 x) = stepMask (k2_pay43 (k2_pay74 x) (k2_pay81 x) (k2_pay82 x))).trans (congrArg stepMask (st_16 x))

/-- The positions taken in round 17. -/
theorem ix_17 : k2_pay46 (k2_pay74 x) (k2_pay81 x) (k2_pay82 x) = stepIdx (state x 17) :=
  (rfl : k2_pay46 (k2_pay74 x) (k2_pay81 x) (k2_pay82 x) = stepIdx (k2_pay45 (k2_pay74 x) (k2_pay81 x) (k2_pay82 x))).trans (congrArg stepIdx (st_17 x))

/-- The masked row after 18 rounds. -/
theorem st_18 : k2_pay83 x = state x 18 :=
  (rfl : k2_pay83 x = stepMask (k2_pay45 (k2_pay74 x) (k2_pay81 x) (k2_pay82 x))).trans (congrArg stepMask (st_17 x))

/-- The positions taken in round 18. -/
theorem ix_18 : k2_pay49 (k2_pay74 x) (k2_pay84 x) 2048#32 = stepIdx (state x 18) :=
  (rfl : k2_pay49 (k2_pay74 x) (k2_pay84 x) 2048#32 = stepIdx (k2_pay83 x)).trans (congrArg stepIdx (st_18 x))

/-- The masked row after 19 rounds. -/
theorem st_19 : k2_pay50 (k2_pay74 x) (k2_pay83 x) (k2_pay84 x) 2048#32 = state x 19 :=
  (rfl : k2_pay50 (k2_pay74 x) (k2_pay83 x) (k2_pay84 x) 2048#32 = stepMask (k2_pay83 x)).trans (congrArg stepMask (st_18 x))

/-- The positions taken in round 19. -/
theorem ix_19 : k2_pay51 (k2_pay74 x) (k2_pay83 x) (k2_pay84 x) 2048#32 = stepIdx (state x 19) :=
  (rfl : k2_pay51 (k2_pay74 x) (k2_pay83 x) (k2_pay84 x) 2048#32 = stepIdx (k2_pay50 (k2_pay74 x) (k2_pay83 x) (k2_pay84 x) 2048#32)).trans (congrArg stepIdx (st_19 x))

/-- The masked row after 20 rounds. -/
theorem st_20 : k2_pay52 (k2_pay74 x) (k2_pay83 x) (k2_pay84 x) 2048#32 = state x 20 :=
  (rfl : k2_pay52 (k2_pay74 x) (k2_pay83 x) (k2_pay84 x) 2048#32 = stepMask (k2_pay50 (k2_pay74 x) (k2_pay83 x) (k2_pay84 x) 2048#32)).trans (congrArg stepMask (st_19 x))

/-- The positions taken in round 20. -/
theorem ix_20 : k2_pay53 (k2_pay74 x) (k2_pay83 x) (k2_pay84 x) 2048#32 = stepIdx (state x 20) :=
  (rfl : k2_pay53 (k2_pay74 x) (k2_pay83 x) (k2_pay84 x) 2048#32 = stepIdx (k2_pay52 (k2_pay74 x) (k2_pay83 x) (k2_pay84 x) 2048#32)).trans (congrArg stepIdx (st_20 x))

/-- The masked row after 21 rounds. -/
theorem st_21 : k2_pay54 (k2_pay74 x) (k2_pay83 x) (k2_pay84 x) 2048#32 = state x 21 :=
  (rfl : k2_pay54 (k2_pay74 x) (k2_pay83 x) (k2_pay84 x) 2048#32 = stepMask (k2_pay52 (k2_pay74 x) (k2_pay83 x) (k2_pay84 x) 2048#32)).trans (congrArg stepMask (st_20 x))

/-- The positions taken in round 21. -/
theorem ix_21 : k2_pay55 (k2_pay74 x) (k2_pay83 x) (k2_pay84 x) 2048#32 = stepIdx (state x 21) :=
  (rfl : k2_pay55 (k2_pay74 x) (k2_pay83 x) (k2_pay84 x) 2048#32 = stepIdx (k2_pay54 (k2_pay74 x) (k2_pay83 x) (k2_pay84 x) 2048#32)).trans (congrArg stepIdx (st_21 x))

/-- The masked row after 22 rounds. -/
theorem st_22 : k2_pay85 x = state x 22 :=
  (rfl : k2_pay85 x = stepMask (k2_pay54 (k2_pay74 x) (k2_pay83 x) (k2_pay84 x) 2048#32)).trans (congrArg stepMask (st_21 x))

/-- The positions taken in round 22. -/
theorem ix_22 : k2_pay58 (k2_pay74 x) (k2_pay85 x) (k2_pay86 x) = stepIdx (state x 22) :=
  (rfl : k2_pay58 (k2_pay74 x) (k2_pay85 x) (k2_pay86 x) = stepIdx (k2_pay85 x)).trans (congrArg stepIdx (st_22 x))

/-- The masked row after 23 rounds. -/
theorem st_23 : k2_pay59 (k2_pay74 x) (k2_pay85 x) (k2_pay86 x) = state x 23 :=
  (rfl : k2_pay59 (k2_pay74 x) (k2_pay85 x) (k2_pay86 x) = stepMask (k2_pay85 x)).trans (congrArg stepMask (st_22 x))

/-- The positions taken in round 23. -/
theorem ix_23 : k2_pay60 (k2_pay74 x) (k2_pay85 x) (k2_pay86 x) = stepIdx (state x 23) :=
  (rfl : k2_pay60 (k2_pay74 x) (k2_pay85 x) (k2_pay86 x) = stepIdx (k2_pay59 (k2_pay74 x) (k2_pay85 x) (k2_pay86 x))).trans (congrArg stepIdx (st_23 x))

/-- The masked row after 24 rounds. -/
theorem st_24 : k2_pay61 (k2_pay74 x) (k2_pay85 x) (k2_pay86 x) = state x 24 :=
  (rfl : k2_pay61 (k2_pay74 x) (k2_pay85 x) (k2_pay86 x) = stepMask (k2_pay59 (k2_pay74 x) (k2_pay85 x) (k2_pay86 x))).trans (congrArg stepMask (st_23 x))

/-- The positions taken in round 24. -/
theorem ix_24 : k2_pay62 (k2_pay74 x) (k2_pay85 x) (k2_pay86 x) = stepIdx (state x 24) :=
  (rfl : k2_pay62 (k2_pay74 x) (k2_pay85 x) (k2_pay86 x) = stepIdx (k2_pay61 (k2_pay74 x) (k2_pay85 x) (k2_pay86 x))).trans (congrArg stepIdx (st_24 x))

/-- The masked row after 25 rounds. -/
theorem st_25 : k2_pay87 x = state x 25 :=
  (rfl : k2_pay87 x = stepMask (k2_pay61 (k2_pay74 x) (k2_pay85 x) (k2_pay86 x))).trans (congrArg stepMask (st_24 x))

/-- The positions taken in round 25. -/
theorem ix_25 : k2_pay64 (k2_pay74 x) (k2_pay85 x) (k2_pay86 x) = stepIdx (state x 25) :=
  (rfl : k2_pay64 (k2_pay74 x) (k2_pay85 x) (k2_pay86 x) = stepIdx (k2_pay87 x)).trans (congrArg stepIdx (st_25 x))

/-- The masked row after 26 rounds. -/
theorem st_26 : k2_pay66 (k2_pay87 x) (k2_pay88 x) (FloatOps.ofBits .f32 0xFF800000#32) = state x 26 := by
  unfold k2_pay66 k2_pay88 k2_pay65
  rw [ix_25, st_25]
  rfl

/-- The positions taken in round 26. -/
theorem ix_26 : k2_pay67 (k2_pay74 x) (k2_pay87 x) (k2_pay88 x) (FloatOps.ofBits .f32 0xFF800000#32) = stepIdx (state x 26) :=
  (rfl : k2_pay67 (k2_pay74 x) (k2_pay87 x) (k2_pay88 x) (FloatOps.ofBits .f32 0xFF800000#32) = stepIdx (k2_pay66 (k2_pay87 x) (k2_pay88 x) (FloatOps.ofBits .f32 0xFF800000#32))).trans (congrArg stepIdx (st_26 x))

/-- The masked row after 27 rounds. -/
theorem st_27 : k2_pay68 (k2_pay74 x) (k2_pay87 x) (k2_pay88 x) (FloatOps.ofBits .f32 0xFF800000#32) = state x 27 :=
  (rfl : k2_pay68 (k2_pay74 x) (k2_pay87 x) (k2_pay88 x) (FloatOps.ofBits .f32 0xFF800000#32) = stepMask (k2_pay66 (k2_pay87 x) (k2_pay88 x) (FloatOps.ofBits .f32 0xFF800000#32))).trans (congrArg stepMask (st_26 x))

/-- The positions taken in round 27. -/
theorem ix_27 : k2_pay69 (k2_pay74 x) (k2_pay87 x) (k2_pay88 x) (FloatOps.ofBits .f32 0xFF800000#32) = stepIdx (state x 27) :=
  (rfl : k2_pay69 (k2_pay74 x) (k2_pay87 x) (k2_pay88 x) (FloatOps.ofBits .f32 0xFF800000#32) = stepIdx (k2_pay68 (k2_pay74 x) (k2_pay87 x) (k2_pay88 x) (FloatOps.ofBits .f32 0xFF800000#32))).trans (congrArg stepIdx (st_27 x))

/-- The masked row after 28 rounds. -/
theorem st_28 : k2_pay70 (k2_pay74 x) (k2_pay87 x) (k2_pay88 x) (FloatOps.ofBits .f32 0xFF800000#32) = state x 28 :=
  (rfl : k2_pay70 (k2_pay74 x) (k2_pay87 x) (k2_pay88 x) (FloatOps.ofBits .f32 0xFF800000#32) = stepMask (k2_pay68 (k2_pay74 x) (k2_pay87 x) (k2_pay88 x) (FloatOps.ofBits .f32 0xFF800000#32))).trans (congrArg stepMask (st_27 x))

/-- The positions taken in round 28. -/
theorem ix_28 : k2_pay71 (k2_pay74 x) (k2_pay87 x) (k2_pay88 x) (FloatOps.ofBits .f32 0xFF800000#32) = stepIdx (state x 28) :=
  (rfl : k2_pay71 (k2_pay74 x) (k2_pay87 x) (k2_pay88 x) (FloatOps.ofBits .f32 0xFF800000#32) = stepIdx (k2_pay70 (k2_pay74 x) (k2_pay87 x) (k2_pay88 x) (FloatOps.ofBits .f32 0xFF800000#32))).trans (congrArg stepIdx (st_28 x))

/-- The masked row after 29 rounds. -/
theorem st_29 : k2_pay72 (k2_pay74 x) (k2_pay87 x) (k2_pay88 x) (FloatOps.ofBits .f32 0xFF800000#32) = state x 29 :=
  (rfl : k2_pay72 (k2_pay74 x) (k2_pay87 x) (k2_pay88 x) (FloatOps.ofBits .f32 0xFF800000#32) = stepMask (k2_pay70 (k2_pay74 x) (k2_pay87 x) (k2_pay88 x) (FloatOps.ofBits .f32 0xFF800000#32))).trans (congrArg stepMask (st_28 x))

/-- The positions taken in round 29. -/
theorem ix_29 : k2_pay89 x = stepIdx (state x 29) := by
  unfold k2_pay89 k2_pay73
  rw [st_29]
  rfl

/-- The masked row after 30 rounds. -/
theorem st_30 : k2_pay90 x = state x 30 := by
  unfold k2_pay90 k2_pay1
  rw [ix_29, st_29]
  rfl

/-- The positions taken in round 30. -/
theorem ix_30 : k2_pay91 x = stepIdx (state x 30) :=
  (rfl : k2_pay91 x = stepIdx (k2_pay90 x)).trans (congrArg stepIdx (st_30 x))

/-- The masked row after 31 rounds. -/
theorem st_31 : k2_pay4 (k2_pay74 x) (k2_pay90 x) (k2_pay91 x) = state x 31 :=
  (rfl : k2_pay4 (k2_pay74 x) (k2_pay90 x) (k2_pay91 x) = stepMask (k2_pay90 x)).trans (congrArg stepMask (st_30 x))

/-- The positions taken in round 31. -/
theorem ix_31 : shapeCast S64x1 (multiReductionI .minsi [1] S64 (k2_pay5 (k2_pay74 x) (k2_pay4 (k2_pay74 x) (k2_pay90 x) (k2_pay91 x))) 2147483647#32 reduces_S64x2048_S64 rfl) shapeCasts_S64_S64x1
    = stepIdx (state x 31) := by
  unfold k2_pay5
  rw [st_31]
  rfl

/-- A round takes the first position of the row's greatest value. -/
theorem stepIdx_apply (x : FVec Ideal S64x2048 .f32) (r : Fin 64) :
    stepIdx x (ix2 r 0) = BitVec.ofNat 32 (Cert.Topk.firstMax fun l : Fin 2048 => x (ix2 r l)).val := by
  rw [← Cert.Topk.fold_minsi_eq]
  pointwise [stepIdx]
  rw [Cert.Words.negInf]

/-- A round masks the position it took. -/
theorem stepMask_apply (x : FVec Ideal S64x2048 .f32) (r : Fin 64) (l : Fin 2048) :
    stepMask x (ix2 r l) = if l = Cert.Topk.firstMax (fun l : Fin 2048 => x (ix2 r l)) then ⊥ else x (ix2 r l) := by
  pointwise [stepMask]
  rw [stepIdx_apply, Cert.Words.select_cmpi_eq, Cert.Words.negInf]
  simp only [Cert.Words.ofNat_inj_2048]

/-- The state after `k` rounds, row by row: the row with its `k` first picks masked. -/
theorem state_apply (x : FVec Ideal S64x2048 .f32) (r : Fin 64) (k : ℕ) (l : Fin 2048) :
    state x k (ix2 r l) = Cert.Topk.masked (fun l : Fin 2048 => x (ix2 r l)) k l := by
  induction k generalizing l with
  | zero => rfl
  | succ k ih =>
    show stepMask (state x k) (ix2 r l) = _
    rw [stepMask_apply, ih]
    simp only [ih]
    rfl

/-- Column `k` of the call's result is the position taken in round `k`. -/
theorem out_apply (r : Fin 64) (k : Fin 32) :
    out2_1 x (ix2 r k) = BitVec.ofNat 32 (Cert.Topk.pick (fun l : Fin 2048 => x (ix2 r l)) k.val).val := by
  have h0 := ix_0 x
  have h1 := ix_1 x
  have h2 := ix_2 x
  rw [ld_eq] at h0 h1 h2
  have key : ∀ k : ℕ, stepIdx (state x k) (ix2 r 0)
      = BitVec.ofNat 32 (Cert.Topk.pick (fun l : Fin 2048 => x (ix2 r l)) k).val := fun k => by
    rw [stepIdx_apply]
    simp only [state_apply]
    rfl
  unfold out2_1
  frame_out
  unfold k2_pay6
  rw [h0, h1, h2, ix_3, ix_4, ix_5, ix_6, ix_7, ix_8, ix_9, ix_10, ix_11, ix_12, ix_13, ix_14, ix_15, ix_16, ix_17, ix_18, ix_19, ix_20, ix_21, ix_22, ix_23, ix_24, ix_25, ix_26, ix_27, ix_28, ix_29, ix_31, ix_30]
  fin_cases k <;> pointwise <;> exact key _

end Cert.KernelIdeal.Topk

end
-- ==== Proof.TopkArray.lean ====
/- What the top-k call leaves in its result array. -/
module

public import proofs.«01_k».proof.Proof.Gen.KernelIdeal.Frame
public import proofs.«01_k».proof.Proof.TopkBlock
public import Idealize.ShloMosaic.Lib.Pipeline.ValueKit

@[expose] public section

set_option maxRecDepth 16384

noncomputable section

namespace Cert.KernelIdeal.Topk

open Idealize.ShloMosaic Idealize.ShloMosaic.TcCoe Idealize.ShloMosaic.Tactic Cert.KernelIdeal.Gen Cert.Words

variable (V : (c : Dev nD) → (b : Ref sig .tc) → Buf (Elt Ideal) ((c : Thread nD τ).loc b))

/-- The selected positions at row `i 0`, round `i 1`. -/
def arr (x : S64x2048.Idx → EReal) (i : S64x32.Idx) : BitVec 32 :=
  BitVec.ofNat 32 (Cert.Topk.pick (fun l : Fin 2048 => x (ix2 (i 0) l)) (i 1).val).val

set_option maxHeartbeats 2000000 in
/-- The array the top-k call leaves. -/
theorem arrAt_eq (c : Dev nD) : (dat2 V c).arrAt 1 cfg2.N = arr (V c main_v16) := by
  refine (dat2 V c).arrAt_eq_of_covers 1 _ (by decide +kernel) fun t hf y => ?_
  blk_simp
  rw [after2_1]
  idx_vars y
  rw [out_apply]
  have bx : ∀ (l : Fin 64) (j : Fin 2048), (win2_0.blk t).view.emb (ix2 l j) = ix2 l j := fun l j => by
    blk_ext [(by decide +kernel : ∀ t : Fin grid2.N, win2_0.index t = ![0, 0]) t]
  have bo : (win2_1.blk t).view.emb (ix2 y0 y1) = ix2 y0 y1 := by
    blk_ext [(by decide +kernel : ∀ t : Fin grid2.N, win2_1.index t = ![0, 0]) t]
  blk_simp [iblk2]
  rw [bo]
  simp only [bx]
  rfl

end Cert.KernelIdeal.Topk

end
-- ==== Proof.AttnArray.lean ====
/- What the attention call leaves in its two result arrays. -/
module

public import proofs.«01_k».proof.Proof.Gen.KernelIdeal.Frame
public import proofs.«01_k».proof.Proof.AttnBlock
public import Idealize.ShloMosaic.Lib.Pipeline.ValueKit

@[expose] public section

set_option maxRecDepth 16384

noncomputable section

namespace Cert.KernelIdeal.Attn

open Idealize.ShloMosaic Idealize.ShloMosaic.TcCoe Idealize.ShloMosaic.Tactic Cert.KernelIdeal.Gen Cert.Spec Cert.Words

variable (V : (c : Dev nD) → (b : Ref sig .tc) → Buf (Elt Ideal) ((c : Thread nD τ).loc b))

/-- The queries of a block, its leading axis dropped. -/
theorem pay4_apply (x : Vec Ideal S1x2048x1024 .bf16) (l : Fin 2048) (j : Fin 1024) : k3_pay4 x (ix2 l j) = x (ix3 0 l j) := by
  pointwise [k3_pay4]

/-- The keys or the values of a block, their leading axis dropped. -/
theorem pay5_apply (x : Vec Ideal S1x2048x1024 .bf16) (l : Fin 2048) (j : Fin 1024) : k3_pay5 x (ix2 l j) = x (ix3 0 l j) := by
  pointwise [k3_pay5]

/-- The output projection is read as it is. -/
theorem pay6_apply (x : Vec Ideal S1024x1024 .bf16) (l : Fin 1024) (j : Fin 1024) : k3_pay6 x (ix2 l j) = x (ix2 l j) := by
  pointwise [k3_pay6]

/-- One entry of a selected row's correction, from its head's query row, keys, values and output weights. -/
def corr (q : Fin 64 → EReal) (k v : Fin 2048 → Fin 64 → EReal) (wo : Fin 64 → EReal) : EReal :=
  ∑ d, (context q k v d - colMean fun l => v l d) * wo d

/-- What a block stores as the corrections: one row for every selected query. -/
theorem out6_apply (x0 : Vec Ideal S1x1x512 .i32) (x1 x2 x3 : Vec Ideal S1x2048x1024 .bf16) (x4 : Vec Ideal S1024x1024 .bf16)
    (x5 : Vec Ideal S1x1024 .f32) (p : Fin 512 → Fin 2048) (hp : ∀ r, x0 (ix3 0 0 r) = BitVec.ofNat 32 (p r).val)
    (r : Fin 512) (o : Fin 1024) :
    out3_6 x0 x1 x2 x3 x4 x5 (ix3 0 r o)
      = corr (fun d => x1 (ix3 0 (p r) (col (head r) d))) (fun l d => x2 (ix3 0 l (col (head r) d)))
          (fun l d => x3 (ix3 0 l (col (head r) d))) fun d => x4 (ix2 (col (head r) d) o) := by
  unfold_out out3_6
  frame_out
  refine (pay2_apply _ _ _ r o).trans ?_
  refine Finset.sum_congr rfl fun d _ => ?_
  rw [pay6_apply]
  refine congrArg (· * _) (congrArg₂ (· - ·) ?_ ?_)
  · refine Finset.sum_congr rfl fun l _ => ?_
    rw [pay5_apply]
    refine congrArg (· * _) ((pay12_apply _ _ r l).trans ?_)
    refine congrArg₂ (fun a b => softmax (score a b) l) (funext fun d => ?_) (funext fun l => funext fun d => ?_)
    · exact pay7_apply _ _ p hp r _
    · exact pay4_apply _ _ _
  · exact congrArg colMean (funext fun l => pay5_apply _ _ _)

/-- What a block stores as the base row: the mean's projection with its bias. -/
theorem out7_apply (x0 : Vec Ideal S1x1x512 .i32) (x1 x2 x3 : Vec Ideal S1x2048x1024 .bf16) (x4 : Vec Ideal S1024x1024 .bf16)
    (x5 : Vec Ideal S1x1024 .f32) (o : Fin 1024) :
    out3_7 x0 x1 x2 x3 x4 x5 (ix3 0 0 o)
      = proj (fun j => colMean fun l => x3 (ix3 0 l j)) (fun j => x4 (ix2 j o)) (x5 (ix2 0 o)) := by
  unfold_out out3_7
  frame_out
  refine (pay3_apply _ _ _ o).trans ?_
  simp only [pay5_apply, pay6_apply]

/-- The correction array at batch `i 0`, selected row `i 1`, column `i 2`. -/
def arrCorr (p : Fin 4 → Fin 512 → Fin 2048) (q k v : S4x2048x1024.Idx → EReal) (wo : S1024x1024.Idx → EReal) (i : S4x512x1024.Idx) : EReal :=
  corr (fun d => q (ix3 (i 0) (p (i 0) (i 1)) (col (head (i 1)) d))) (fun l d => k (ix3 (i 0) l (col (head (i 1)) d)))
    (fun l d => v (ix3 (i 0) l (col (head (i 1)) d))) fun d => wo (ix2 (col (head (i 1)) d) (i 2))

/-- The base array at batch `i 0`, column `i 2`. -/
def arrBase (v : S4x2048x1024.Idx → EReal) (wo : S1024x1024.Idx → EReal) (bo : S1x1024.Idx → EReal) (i : S4x1x1024.Idx) : EReal :=
  proj (fun j => colMean fun l => v (ix3 (i 0) l j)) (fun j => wo (ix2 j (i 2))) (bo (ix2 0 (i 2)))

set_option maxHeartbeats 2000000 in
/-- The correction array the attention call leaves. -/
theorem arrAt_corr (c : Dev nD) (p : Fin 4 → Fin 512 → Fin 2048)
    (hp : ∀ b r, V c main_v18 (ix3 b 0 r) = BitVec.ofNat 32 (p b r).val) :
    (dat3 V c).arrAt 6 cfg3.N = arrCorr p (V c main_v13) (V c main_v14) (V c main_v15) (V c main_v20) := by
  refine (dat3 V c).arrAt_eq_of_covers 6 _ (by decide +kernel) fun t hf y => ?_
  blk_simp
  rw [after3_6]
  idx_vars y
  obtain rfl : y0 = 0 := Subsingleton.elim _ _
  have ht : t.val < 4 := t.isLt
  obtain ⟨B, hB⟩ : ∃ B : Fin 4, B.val = t.val := ⟨⟨t.val, ht⟩, rfl⟩
  have bi : ∀ (n : Fin 512), (win3_0.blk t).view.emb (ix3 0 0 n) = ix3 B 0 n := fun n => by
    blk_ext [(by decide +kernel : ∀ t : Fin grid3.N, win3_0.index t = ![t.val, 0, 0]) t, hB]
  have bq : ∀ (l : Fin 2048) (j : Fin 1024), (win3_1.blk t).view.emb (ix3 0 l j) = ix3 B l j := fun l j => by
    blk_ext [(by decide +kernel : ∀ t : Fin grid3.N, win3_1.index t = ![t.val, 0, 0]) t, hB]
  have bk : ∀ (l : Fin 2048) (j : Fin 1024), (win3_2.blk t).view.emb (ix3 0 l j) = ix3 B l j := fun l j => by
    blk_ext [(by decide +kernel : ∀ t : Fin grid3.N, win3_2.index t = ![t.val, 0, 0]) t, hB]
  have bv : ∀ (l : Fin 2048) (j : Fin 1024), (win3_3.blk t).view.emb (ix3 0 l j) = ix3 B l j := fun l j => by
    blk_ext [(by decide +kernel : ∀ t : Fin grid3.N, win3_3.index t = ![t.val, 0, 0]) t, hB]
  have bw : ∀ (a : Fin 1024) (b : Fin 1024), (win3_4.blk t).view.emb (ix2 a b) = ix2 a b := fun a b => by
    blk_ext [(by decide +kernel : ∀ t : Fin grid3.N, win3_4.index t = ![0, 0]) t]
  have bb : ∀ (a : Fin 1) (b : Fin 1024), (win3_5.blk t).view.emb (ix2 a b) = ix2 a b := fun a b => by
    blk_ext [(by decide +kernel : ∀ t : Fin grid3.N, win3_5.index t = ![0, 0]) t]
  have bo : (win3_6.blk t).view.emb (ix3 0 y1 y2) = ix3 B y1 y2 := by
    blk_ext [(by decide +kernel : ∀ t : Fin grid3.N, win3_6.index t = ![t.val, 0, 0]) t, hB]
  rw [out6_apply _ _ _ _ _ _ (p B) (fun r => by blk_simp [iblk3]; rw [bi]; exact hp B r)]
  blk_simp [iblk3]
  rw [bo]
  simp only [bq, bk, bv, bw]
  rfl

set_option maxHeartbeats 2000000 in
/-- The base array the attention call leaves. -/
theorem arrAt_base (c : Dev nD) :
    (dat3 V c).arrAt 7 cfg3.N = arrBase (V c main_v15) (V c main_v20) (V c main_v21) := by
  refine (dat3 V c).arrAt_eq_of_covers 7 _ (by decide +kernel) fun t hf y => ?_
  blk_simp
  rw [after3_7]
  idx_vars y
  obtain rfl : y0 = 0 := Subsingleton.elim _ _
  obtain rfl : y1 = 0 := Subsingleton.elim _ _
  have ht : t.val < 4 := t.isLt
  obtain ⟨B, hB⟩ : ∃ B : Fin 4, B.val = t.val := ⟨⟨t.val, ht⟩, rfl⟩
  have bv : ∀ (l : Fin 2048) (j : Fin 1024), (win3_3.blk t).view.emb (ix3 0 l j) = ix3 B l j := fun l j => by
    blk_ext [(by decide +kernel : ∀ t : Fin grid3.N, win3_3.index t = ![t.val, 0, 0]) t, hB]
  have bw : ∀ (a : Fin 1024) (b : Fin 1024), (win3_4.blk t).view.emb (ix2 a b) = ix2 a b := fun a b => by
    blk_ext [(by decide +kernel : ∀ t : Fin grid3.N, win3_4.index t = ![0, 0]) t]
  have bb : ∀ (a : Fin 1) (b : Fin 1024), (win3_5.blk t).view.emb (ix2 a b) = ix2 a b := fun a b => by
    blk_ext [(by decide +kernel : ∀ t : Fin grid3.N, win3_5.index t = ![0, 0]) t]
  have bo : (win3_7.blk t).view.emb (ix3 0 0 y2) = ix3 B 0 y2 := by
    blk_ext [(by decide +kernel : ∀ t : Fin grid3.N, win3_7.index t = ![t.val, 0, 0]) t, hB]
  rw [out7_apply]
  blk_simp [iblk3]
  rw [bo]
  simp only [bv, bw, bb]
  rfl

end Cert.KernelIdeal.Attn

end
-- ==== Proof.FfnArray.lean ====
/- What the kernel's last call leaves in its result array, from the arrays it is entered with. -/
module

public import proofs.«01_k».proof.Proof.Gen.KernelIdeal.Frame
public import proofs.«01_k».proof.Proof.FfnBlock
public import Idealize.ShloMosaic.Lib.Pipeline.ValueKit

@[expose] public section

set_option maxRecDepth 16384

noncomputable section

namespace Cert.KernelIdeal.Ffn

open Idealize.ShloMosaic Idealize.ShloMosaic.TcCoe Idealize.ShloMosaic.Tactic Cert.KernelIdeal.Gen Cert.Spec

variable (V : (c : Dev nD) → (b : Ref sig .tc) → Buf (Elt Ideal) ((c : Thread nD τ).loc b))

/-- The batch a row of the flattened array belongs to. -/
def batch (i : Fin 8192) : Fin 4 := ⟨i.val / 2048, by omega⟩

/-- The result array of the last call at row `i 0`, column `i 1`, from the contents it is entered with. -/
def arr (a0 : S8192x1024.Idx → EReal) (a1 : S4x1x512.Idx → BitVec 32) (a2 : S4x512x1024.Idx → EReal) (a3 : S4x1x1024.Idx → EReal)
    (a4 a5 : S1x1024.Idx → EReal) (a6 : S1024x4096.Idx → EReal) (a7 : S1x4096.Idx → EReal) (a8 : S4096x1024.Idx → EReal)
    (a9 a10 a11 : S1x1024.Idx → EReal) (i : S8192x1024.Idx) : EReal :=
  ffnRow (fun k => a0 (ix2 (i 0) k) + (∑ n : Fin 512,
      (if BitVec.ofNat 32 ((i 0).val % 512) + BitVec.ofNat 32 ((i 0).val / 512 % 4 * 512) = a1 (ix3 (batch (i 0)) 0 n) then (1 : EReal) else 0)
        * a2 (ix3 (batch (i 0)) n k)) + a3 (ix3 (batch (i 0)) 0 k))
    (fun k => a4 (ix2 0 k)) (fun k => a5 (ix2 0 k)) (fun k j => a6 (ix2 k j)) (fun j => a7 (ix2 0 j))
    (fun j p => a8 (ix2 j p)) (fun k => a9 (ix2 0 k)) (fun k => a10 (ix2 0 k)) (fun k => a11 (ix2 0 k)) (i 1)

set_option maxHeartbeats 2000000 in
/-- The array the last call leaves. -/
theorem arrAt_eq (c : Dev nD) : (dat4 V c).arrAt 12 cfg4.N
    = arr (V c main_v0) (V c main_v18) (V c main_v22_0) (V c main_v22_1) (V c main_v23) (V c main_v24) (V c main_v25)
        (V c main_v26) (V c main_v27) (V c main_v28) (V c main_v29) (V c main_v30) := by
  refine (dat4 V c).arrAt_eq_of_covers 12 _ (by decide +kernel) fun t hf y => ?_
  blk_simp
  rw [after4_12]
  unfold_out out4_12
  frame_out
  idx_vars y
  rw [block_apply]
  have ht : t.val < 16 := t.isLt
  obtain ⟨R, hR⟩ : ∃ R : Fin 8192, R.val = t.val * 512 + y0.val := ⟨⟨t.val * 512 + y0.val, by omega⟩, rfl⟩
  have b0 : ∀ k : Fin 1024, (win4_0.blk t).view.emb (ix2 y0 k) = ix2 R k := fun k => by
    blk_ext [(by decide +kernel : ∀ t : Fin grid4.N, win4_0.index t = ![t.val, 0]) t, hR]
  have b12 : (win4_12.blk t).view.emb (ix2 y0 y1) = ix2 R y1 := by
    blk_ext [(by decide +kernel : ∀ t : Fin grid4.N, win4_12.index t = ![t.val, 0]) t, hR]
  have hb : (batch R).val = t.val / 4 := by show R.val / 2048 = _; omega
  have b1 : ∀ n : Fin 512, (win4_1.blk t).view.emb (ix3 0 0 n) = ix3 (batch R) 0 n := fun n => by
    blk_ext [(by decide +kernel : ∀ t : Fin grid4.N, win4_1.index t = ![t.val / 4, 0, 0]) t, hb]
  have b2 : ∀ (n : Fin 512) (k : Fin 1024), (win4_2.blk t).view.emb (ix3 0 n k) = ix3 (batch R) n k := fun n k => by
    blk_ext [(by decide +kernel : ∀ t : Fin grid4.N, win4_2.index t = ![t.val / 4, 0, 0]) t, hb]
  have b3 : ∀ k : Fin 1024, (win4_3.blk t).view.emb (ix3 0 0 k) = ix3 (batch R) 0 k := fun k => by
    blk_ext [(by decide +kernel : ∀ t : Fin grid4.N, win4_3.index t = ![t.val / 4, 0, 0]) t, hb]
  have b4 : ∀ (a : Fin 1) (b : Fin 1024), (win4_4.blk t).view.emb (ix2 a b) = ix2 a b := fun a b => by
    blk_ext [(by decide +kernel : ∀ t : Fin grid4.N, win4_4.index t = ![0, 0]) t]
  have b5 : ∀ (a : Fin 1) (b : Fin 1024), (win4_5.blk t).view.emb (ix2 a b) = ix2 a b := fun a b => by
    blk_ext [(by decide +kernel : ∀ t : Fin grid4.N, win4_5.index t = ![0, 0]) t]
  have b6 : ∀ (a : Fin 1024) (b : Fin 4096), (win4_6.blk t).view.emb (ix2 a b) = ix2 a b := fun a b => by
    blk_ext [(by decide +kernel : ∀ t : Fin grid4.N, win4_6.index t = ![0, 0]) t]
  have b7 : ∀ (a : Fin 1) (b : Fin 4096), (win4_7.blk t).view.emb (ix2 a b) = ix2 a b := fun a b => by
    blk_ext [(by decide +kernel : ∀ t : Fin grid4.N, win4_7.index t = ![0, 0]) t]
  have b8 : ∀ (a : Fin 4096) (b : Fin 1024), (win4_8.blk t).view.emb (ix2 a b) = ix2 a b := fun a b => by
    blk_ext [(by decide +kernel : ∀ t : Fin grid4.N, win4_8.index t = ![0, 0]) t]
  have b9 : ∀ (a : Fin 1) (b : Fin 1024), (win4_9.blk t).view.emb (ix2 a b) = ix2 a b := fun a b => by
    blk_ext [(by decide +kernel : ∀ t : Fin grid4.N, win4_9.index t = ![0, 0]) t]
  have b10 : ∀ (a : Fin 1) (b : Fin 1024), (win4_10.blk t).view.emb (ix2 a b) = ix2 a b := fun a b => by
    blk_ext [(by decide +kernel : ∀ t : Fin grid4.N, win4_10.index t = ![0, 0]) t]
  have b11 : ∀ (a : Fin 1) (b : Fin 1024), (win4_11.blk t).view.emb (ix2 a b) = ix2 a b := fun a b => by
    blk_ext [(by decide +kernel : ∀ t : Fin grid4.N, win4_11.index t = ![0, 0]) t]
  have hc : (grid4.coords t 0).val = t.val := (by decide +kernel : ∀ t : Fin grid4.N, (grid4.coords t 0).val = t.val) t
  have h0 : t.val = R.val / 512 := by omega
  have h1 : y0.val = R.val % 512 := by omega
  blk_simp [iblk4]
  rw [b12]
  simp only [b0, b1, b2, b3, b4, b5, b6, b7, b8, b9, b10, b11, hc]
  rw [h0, h1]
  rfl

end Cert.KernelIdeal.Ffn

end
-- ==== Proof.KernelValue.lean ====
/- The kernel's result at an index, from its arguments: the five calls and the reshapes between them composed. -/
module

public import proofs.«01_k».proof.Proof.KernelReads
public import proofs.«01_k».proof.Proof.HeadSums
public import proofs.«01_k».proof.Proof.Whole
public import proofs.«01_k».proof.Proof.ProjArray
public import proofs.«01_k».proof.Proof.MeasureArray
public import proofs.«01_k».proof.Proof.TopkArray
public import proofs.«01_k».proof.Proof.AttnArray
public import proofs.«01_k».proof.Proof.FfnArray

@[expose] public section

set_option maxRecDepth 16384

noncomputable section

namespace Cert.KernelIdeal.Value

open Idealize.ShloMosaic Idealize.ShloMosaic.TcCoe Idealize.ShloMosaic.Tactic Cert.KernelIdeal.Gen Cert.Words Cert.Spec Cert.KernelIdeal.Ffn

variable (m : (ℓ : Loc nD τ sig) → Buf (Elt Ideal) ℓ) (ρ : Dev nD → PrngReg) (c : Dev nD)

/-- The queries by head. -/
abbrev qh := headsOf (m ((c : Thread nD τ).loc main_arg0)) (m ((c : Thread nD τ).loc main_arg3)) (m ((c : Thread nD τ).loc main_arg4))
/-- The keys by head. -/
abbrev kh := headsOf (m ((c : Thread nD τ).loc main_arg1)) (m ((c : Thread nD τ).loc main_arg5)) (m ((c : Thread nD τ).loc main_arg6))
/-- The values by head. -/
abbrev vh := headsOf (m ((c : Thread nD τ).loc main_arg2)) (m ((c : Thread nD τ).loc main_arg7)) (m ((c : Thread nD τ).loc main_arg8))

/-- Row `l` of batch `B` among all rows. -/
def row (B : Fin 4) (l : Fin 2048) : Fin 8192 := ⟨B.val * 2048 + l.val, by omega⟩

/-- The projected queries after the first call. -/
theorem query_at (B : Fin 4) (h : Fin 16) (l : Fin 2048) (d : Fin 64) :
    V3 m ρ c main_v13 (ix3 B l (col h d)) = qh m c B h l d := by
  rw [Reads.v13 m ρ c B l _ (row B l) rfl, (W2_arr m ρ c 9 :), Proj.arrAt_query]
  exact congr (congr (congrArg proj (funext fun k => Reads.v0 m ρ c B l k (row B l) rfl)) (funext fun k => Reads.v4 m ρ c k h d)) (Reads.v5 m ρ c h d)

/-- The projected keys after the first call. -/
theorem key_at (B : Fin 4) (h : Fin 16) (l : Fin 2048) (d : Fin 64) :
    V3 m ρ c main_v14 (ix3 B l (col h d)) = kh m c B h l d := by
  rw [Reads.v14 m ρ c B l _ (row B l) rfl, (W2_arr m ρ c 10 :), Proj.arrAt_key]
  exact congr (congr (congrArg proj (funext fun k => Reads.v1 m ρ c B l k (row B l) rfl)) (funext fun k => Reads.v7 m ρ c k h d)) (Reads.v8 m ρ c h d)

/-- The projected values after the first call. -/
theorem value_at (B : Fin 4) (h : Fin 16) (l : Fin 2048) (d : Fin 64) :
    V3 m ρ c main_v15 (ix3 B l (col h d)) = vh m c B h l d := by
  rw [Reads.v15 m ρ c B l _ (row B l) rfl, (W2_arr m ρ c 11 :), Proj.arrAt_value]
  exact congr (congr (congrArg proj (funext fun k => Reads.v2 m ρ c B l k (row B l) rfl)) (funext fun k => Reads.v10 m ρ c k h d)) (Reads.v11 m ρ c h d)

/-- The queries are as the first call left them when the attention call reads them. -/
theorem v13_kept : V6 m ρ c main_v13 = V3 m ρ c main_v13 :=
  (W6_of m ρ c main_v13 (by decide)).trans ((W5_of m ρ c main_v13 (by decide)).trans (W4_of m ρ c main_v13 (by decide)))
/-- The keys are as the first call left them when the attention call reads them. -/
theorem v14_kept : V6 m ρ c main_v14 = V3 m ρ c main_v14 :=
  (W6_of m ρ c main_v14 (by decide)).trans ((W5_of m ρ c main_v14 (by decide)).trans (W4_of m ρ c main_v14 (by decide)))
/-- The values are as the first call left them when the attention call reads them. -/
theorem v15_kept : V6 m ρ c main_v15 = V3 m ρ c main_v15 :=
  (W6_of m ρ c main_v15 (by decide)).trans ((W5_of m ρ c main_v15 (by decide)).trans (W4_of m ρ c main_v15 (by decide)))
/-- The query input is unchanged when the last call reads it. -/
theorem v0_kept : V8 m ρ c main_v0 = V1 m ρ c main_v0 :=
  (W8_of m ρ c main_v0 (by decide)).trans ((W7_of m ρ c main_v0 (by decide)).trans ((W6_of m ρ c main_v0 (by decide)).trans
    ((W5_of m ρ c main_v0 (by decide)).trans ((W4_of m ρ c main_v0 (by decide)).trans ((W3_of m ρ c main_v0 (by decide)).trans
      (W2_of m ρ c main_v0 (by decide)))))))
/-- The selected positions are unchanged when the last call reads them. -/
theorem v18_kept : V8 m ρ c main_v18 = V6 m ρ c main_v18 :=
  (W8_of m ρ c main_v18 (by decide)).trans (W7_of m ρ c main_v18 (by decide))

/-- The measures the second call leaves. -/
theorem measure_at (B : Fin 4) (h : Fin 16) (l : Fin 2048) (R : Fin 64) (hR : R.val = B.val * 16 + h.val) :
    V4 m ρ c main_v16 (ix2 R l) = measures (qh m c) (kh m c) B h l := by
  show W4 m ρ c (Proc.devRef .tc main_v16) (ix2 R l) = _
  rw [(W4_arr m ρ c 2 :), Measure.arrAt_eq]
  refine (Measure.arr_at _ _ B h l R hR).trans ?_
  exact congrArg₂ measure (funext fun n => funext fun d => key_at m ρ c B h _ d) (funext fun d => query_at m ρ c B h l d)

/-- The selected position of row `n` of batch `B`. -/
def pos (B : Fin 4) (n : Fin 512) : Fin 2048 := picked (qh m c) (kh m c) B (Attn.head n) ⟨n.val % 32, by omega⟩

/-- The words the top-k call leaves, as the later calls read them. -/
theorem pos_at (B : Fin 4) (n : Fin 512) : V6 m ρ c main_v18 (ix3 B 0 n) = BitVec.ofNat 32 (pos m c B n).val := by
  have hn := n.isLt
  have hB := B.isLt
  rw [Reads.v18 m ρ c B n ⟨B.val * 16 + n.val / 32, by omega⟩ ⟨n.val % 32, by omega⟩ rfl rfl, (W5_arr m ρ c 1 :), Topk.arrAt_eq]
  show BitVec.ofNat 32 (Cert.Topk.pick (fun l : Fin 2048 => V4 m ρ c main_v16 (ix2 ⟨B.val * 16 + n.val / 32, _⟩ l)) (n.val % 32)).val = _
  rw [show (fun l : Fin 2048 => V4 m ρ c main_v16 (ix2 ⟨B.val * 16 + n.val / 32, by omega⟩ l))
    = fun l => measures (qh m c) (kh m c) B (Attn.head n) l from funext fun l => measure_at m ρ c B (Attn.head n) l _ rfl]
  rfl

/-- The corrections the attention call leaves. -/
theorem corr_at (B : Fin 4) (h : Fin 16) (n : Fin 32) (o : Fin 1024) :
    V8 m ρ c main_v22_0 (ix3 B (sel h n) o)
      = ∑ d, (context (fun d => qh m c B h (picked (qh m c) (kh m c) B h n) d) (fun l d => kh m c B h l d) (fun l d => vh m c B h l d) d
          - colMean fun l' => vh m c B h l' d) * m ((c : Thread nD τ).loc main_arg9) (ix3 h d o) := by
  rw [show V8 m ρ c main_v22_0 = W7 m ρ c (Proc.devRef .tc main_v22_0) from W8_of m ρ c main_v22_0 (by decide),
    (W7_arr m ρ c 6 :), Attn.arrAt_corr (V6 m ρ) c (pos m c) (pos_at m ρ c), v13_kept, v14_kept, v15_kept]
  have hp : pos m c B (sel h n) = picked (qh m c) (kh m c) B h n := by
    unfold pos
    rw [head_sel]
    exact congrArg (picked _ _ B h) (Fin.ext (by show (h.val * 32 + n.val) % 32 = n.val; omega))
  show Attn.corr (fun d => V3 m ρ c main_v13 (ix3 B (pos m c B (sel h n)) (col (Attn.head (sel h n)) d)))
    (fun l d => V3 m ρ c main_v14 (ix3 B l (col (Attn.head (sel h n)) d))) (fun l d => V3 m ρ c main_v15 (ix3 B l (col (Attn.head (sel h n)) d)))
    (fun d => V6 m ρ c main_v20 (ix2 (col (Attn.head (sel h n)) d) o)) = _
  rw [hp, head_sel]
  refine (congr (congr (congr (congrArg Attn.corr (funext fun d => query_at m ρ c B h (picked (qh m c) (kh m c) B h n) d))
    (funext fun l => funext fun d => key_at m ρ c B h l d)) (funext fun l => funext fun d => value_at m ρ c B h l d))
    (funext fun d => Reads.v20 m ρ c h d o)).trans ?_
  rfl

/-- The base row the attention call leaves. -/
theorem base_at (B : Fin 4) (o : Fin 1024) :
    V8 m ρ c main_v22_1 (ix3 B 0 o)
      = (∑ h, ∑ d, (colMean fun l' => vh m c B h l' d) * m ((c : Thread nD τ).loc main_arg9) (ix3 h d o))
          + m ((c : Thread nD τ).loc main_arg10) (ix1 o) := by
  rw [show V8 m ρ c main_v22_1 = W7 m ρ c (Proc.devRef .tc main_v22_1) from W8_of m ρ c main_v22_1 (by decide),
    (W7_arr m ρ c 7 :), Attn.arrAt_base, v15_kept]
  show (∑ j, (colMean fun l => V3 m ρ c main_v15 (ix3 B l j)) * V6 m ρ c main_v20 (ix2 j o)) + V6 m ρ c main_v21 (ix2 0 o) = _
  rw [sum_col, Reads.v21]
  exact congrArg (· + _) (Finset.sum_congr rfl fun h _ => Finset.sum_congr rfl fun d _ =>
    congrArg₂ (· * ·) (congrArg colMean (funext fun l => value_at m ρ c B h l d)) (Reads.v20 m ρ c h d o))

/-- The position a row's words spell. -/
theorem row_word (B : Fin 4) (l : Fin 2048) :
    BitVec.ofNat 32 ((row B l).val % 512) + BitVec.ofNat 32 ((row B l).val / 512 % 4 * 512) = BitVec.ofNat 32 l.val := by
  have hl := l.isLt
  rw [← BitVec.ofNat_add]
  exact congrArg _ (by show (B.val * 2048 + l.val) % 512 + (B.val * 2048 + l.val) / 512 % 4 * 512 = l.val; omega)

/-- The batch of row `l` of batch `B` is `B`. -/
theorem batch_row (B : Fin 4) (l : Fin 2048) : batch (row B l) = B := by
  apply Fin.ext
  show (B.val * 2048 + l.val) / 2048 = B.val
  omega

/-- The last call's input row: a sum over the selected rows, regrouped by head. -/
theorem row_eq (B : Fin 4) (l : Fin 2048) (k : Fin 1024) (a0 : S8192x1024.Idx → EReal) (a1 : S4x1x512.Idx → BitVec 32)
    (a2 : S4x512x1024.Idx → EReal) (a3 : S4x1x1024.Idx → EReal) (x b : EReal) (p : Fin 512 → Fin 2048) (C : Fin 16 → Fin 32 → EReal)
    (h0 : a0 (ix2 (row B l) k) = x) (h1 : ∀ n, a1 (ix3 B 0 n) = BitVec.ofNat 32 (p n).val)
    (h2 : ∀ h n, a2 (ix3 B (sel h n) k) = C h n) (h3 : a3 (ix3 B 0 k) = b) :
    a0 (ix2 (row B l) k) + (∑ n : Fin 512,
        (if BitVec.ofNat 32 ((row B l).val % 512) + BitVec.ofNat 32 ((row B l).val / 512 % 4 * 512)
            = a1 (ix3 (batch (row B l)) 0 n) then (1 : EReal) else 0)
          * a2 (ix3 (batch (row B l)) n k)) + a3 (ix3 (batch (row B l)) 0 k)
      = (x + ∑ h, ∑ n, (if l = p (sel h n) then (1 : EReal) else 0) * C h n) + b := by
  rw [row_word, batch_row, h0, h3, sum_sel]
  simp only [h1, h2, ofNat_inj_2048]

/-- The kernel's result at an index. -/
theorem result_at (B : Fin 4) (l : Fin 2048) (o : Fin 1024) :
    W10 m ρ c (Proc.devRef .tc main_v32) (ix3 B l o)
      = block corrRow (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) (m ((c : Thread nD τ).loc main_arg13)) (m ((c : Thread nD τ).loc main_arg14))
          (m ((c : Thread nD τ).loc main_arg15)) (m ((c : Thread nD τ).loc main_arg16)) (m ((c : Thread nD τ).loc main_arg17))
          (m ((c : Thread nD τ).loc main_arg18)) B l o := by
  rw [Reads.v32 m ρ c B l o (row B l) rfl, (W9_arr m ρ c 12 :), Ffn.arrAt_eq, v0_kept, v18_kept]
  unfold Ffn.arr block
  refine congr (congr (congr (congr (congr (congr (congr (congr (congr (congrArg ffnRow ?_) ?_) ?_) ?_) ?_) ?_) ?_) ?_) ?_) ?_
  · funext k
    have hp : ∀ h n, pos m c B (sel h n) = picked (qh m c) (kh m c) B h n := fun h n => by
      unfold pos
      rw [head_sel]
      exact congrArg (picked _ _ B h) (Fin.ext (by show (h.val * 32 + n.val) % 32 = n.val; omega))
    refine (row_eq B l k _ _ _ _ _ _ (pos m c B) _ (Reads.v0 m ρ c B l k (row B l) rfl) (pos_at m ρ c B)
      (fun h n => corr_at m ρ c B h n k) (base_at m ρ c B k)).trans ?_
    simp only [hp]
    rfl
  · exact funext fun k => Reads.v23 m ρ c k
  · exact funext fun k => Reads.v24 m ρ c k
  · exact funext fun k => funext fun j => Reads.v25 m ρ c k j
  · exact funext fun k => Reads.v26 m ρ c k
  · exact funext fun k => funext fun j => Reads.v27 m ρ c k j
  · exact funext fun k => Reads.v28 m ρ c k
  · exact funext fun k => Reads.v29 m ρ c k
  · exact funext fun k => Reads.v30 m ρ c k
  · rfl

end Cert.KernelIdeal.Value

end
-- ==== Proof.RefProj.lean ====
/- The projections of the reference. -/
module

public import proofs.«01_k».proof.Proof.Gen.ReferenceIdeal.Read
public import proofs.«01_k».proof.Proof.Whole

@[expose] public section

set_option maxRecDepth 16384

noncomputable section

namespace Cert.ReferenceIdeal.Read

open Cert.ReferenceIdeal Cert.ReferenceIdeal.Gen Idealize.ShloMosaic Idealize.ShloMosaic.TcCoe Idealize.ShloMosaic.Tactic Cert.Spec

variable (x0 : (⟨S4x2048x1024, .f32⟩ : BufTy).Contents (Elt Ideal)) (x1 : (⟨S4x2048x1024, .f32⟩ : BufTy).Contents (Elt Ideal)) (x2 : (⟨S4x2048x1024, .f32⟩ : BufTy).Contents (Elt Ideal)) (x3 : (⟨S1024x16x64, .f32⟩ : BufTy).Contents (Elt Ideal)) (x4 : (⟨S16x64, .f32⟩ : BufTy).Contents (Elt Ideal)) (x5 : (⟨S1024x16x64, .f32⟩ : BufTy).Contents (Elt Ideal)) (x6 : (⟨S16x64, .f32⟩ : BufTy).Contents (Elt Ideal)) (x7 : (⟨S1024x16x64, .f32⟩ : BufTy).Contents (Elt Ideal)) (x8 : (⟨S16x64, .f32⟩ : BufTy).Contents (Elt Ideal)) (x9 : (⟨S16x64x1024, .f32⟩ : BufTy).Contents (Elt Ideal)) (x10 : (⟨S1024, .f32⟩ : BufTy).Contents (Elt Ideal)) (x11 : (⟨S1024, .f32⟩ : BufTy).Contents (Elt Ideal)) (x12 : (⟨S1024, .f32⟩ : BufTy).Contents (Elt Ideal)) (x13 : (⟨S1024x4096, .f32⟩ : BufTy).Contents (Elt Ideal)) (x14 : (⟨S4096, .f32⟩ : BufTy).Contents (Elt Ideal)) (x15 : (⟨S4096x1024, .f32⟩ : BufTy).Contents (Elt Ideal)) (x16 : (⟨S1024, .f32⟩ : BufTy).Contents (Elt Ideal)) (x17 : (⟨S1024, .f32⟩ : BufTy).Contents (Elt Ideal)) (x18 : (⟨S1024, .f32⟩ : BufTy).Contents (Elt Ideal))

/-- The projected queries of the reference. -/
theorem query_at (B : Fin 4) (h : Fin 16) (l : Fin 2048) (d : Fin 64) :
    (val_main_v4 (F := Ideal) x0 x3 x4) (ix4 B h l d) = headsOf x0 x3 x4 B h l d := by
  pointwise [val_main_v4, val_main_v3, val_main_v2, val_main_v1, val_main_v0]
  refine congrArg (· + _) (Finset.sum_congr rfl fun k _ => mul_comm _ _)

/-- The projected keys of the reference. -/
theorem key_at (B : Fin 4) (h : Fin 16) (l : Fin 2048) (d : Fin 64) :
    (val_main_v9 (F := Ideal) x1 x5 x6) (ix4 B h l d) = headsOf x1 x5 x6 B h l d := by
  pointwise [val_main_v9, val_main_v8, val_main_v7, val_main_v6, val_main_v5]
  refine congrArg (· + _) (Finset.sum_congr rfl fun k _ => mul_comm _ _)

/-- The projected values of the reference. -/
theorem value_at (B : Fin 4) (h : Fin 16) (l : Fin 2048) (d : Fin 64) :
    (val_main_v14 (F := Ideal) x2 x7 x8) (ix4 B h l d) = headsOf x2 x7 x8 B h l d := by
  pointwise [val_main_v14, val_main_v13, val_main_v12, val_main_v11, val_main_v10]
  refine congrArg (· + _) (Finset.sum_congr rfl fun k _ => mul_comm _ _)

end Cert.ReferenceIdeal.Read

end
-- ==== Proof.RefMeasure.lean ====
/- The reference's sparsity measure, read at an entry. -/
module

public import proofs.«01_k».proof.Proof.Gen.ReferenceIdeal.Read
public import proofs.«01_k».proof.Proof.Whole
public import proofs.«01_k».proof.Proof.Words
public import proofs.«01_k».proof.Proof.RefProj

@[expose] public section

set_option maxRecDepth 16384

noncomputable section

namespace Cert.ReferenceIdeal.Read

open Cert.ReferenceIdeal Cert.ReferenceIdeal.Gen Idealize.ShloMosaic Idealize.ShloMosaic.TcCoe Idealize.ShloMosaic.Tactic Cert.Spec Cert.Words

variable (x0 : (⟨S4x2048x1024, .f32⟩ : BufTy).Contents (Elt Ideal)) (x1 : (⟨S4x2048x1024, .f32⟩ : BufTy).Contents (Elt Ideal)) (x2 : (⟨S4x2048x1024, .f32⟩ : BufTy).Contents (Elt Ideal)) (x3 : (⟨S1024x16x64, .f32⟩ : BufTy).Contents (Elt Ideal)) (x4 : (⟨S16x64, .f32⟩ : BufTy).Contents (Elt Ideal)) (x5 : (⟨S1024x16x64, .f32⟩ : BufTy).Contents (Elt Ideal)) (x6 : (⟨S16x64, .f32⟩ : BufTy).Contents (Elt Ideal)) (x7 : (⟨S1024x16x64, .f32⟩ : BufTy).Contents (Elt Ideal)) (x8 : (⟨S16x64, .f32⟩ : BufTy).Contents (Elt Ideal)) (x9 : (⟨S16x64x1024, .f32⟩ : BufTy).Contents (Elt Ideal)) (x10 : (⟨S1024, .f32⟩ : BufTy).Contents (Elt Ideal)) (x11 : (⟨S1024, .f32⟩ : BufTy).Contents (Elt Ideal)) (x12 : (⟨S1024, .f32⟩ : BufTy).Contents (Elt Ideal)) (x13 : (⟨S1024x4096, .f32⟩ : BufTy).Contents (Elt Ideal)) (x14 : (⟨S4096, .f32⟩ : BufTy).Contents (Elt Ideal)) (x15 : (⟨S4096x1024, .f32⟩ : BufTy).Contents (Elt Ideal)) (x16 : (⟨S1024, .f32⟩ : BufTy).Contents (Elt Ideal)) (x17 : (⟨S1024, .f32⟩ : BufTy).Contents (Elt Ideal)) (x18 : (⟨S1024, .f32⟩ : BufTy).Contents (Elt Ideal))

/-- The first sixteen sampled key rows. -/
theorem sampled_lo (B : Fin 4) (h : Fin 16) (n : Fin 16) (d : Fin 64) :
    (val_main_v47 (F := Ideal) x1 x5 x6) (ix4 B h n d) = (val_main_v9 (F := Ideal) x1 x5 x6) (ix4 B h (sample ⟨n.val + 0, by omega⟩) d) := by
  unfold val_main_v47
  refine (concatenate_ofFn_unit_apply (N := 16) (s₁ := S4x16x1x64) (2 : Fin S4x16x16x64.rank)
    (![(val_main_v15 (F := Ideal) x1 x5 x6), (val_main_v16 (F := Ideal) x1 x5 x6), (val_main_v17 (F := Ideal) x1 x5 x6), (val_main_v18 (F := Ideal) x1 x5 x6), (val_main_v19 (F := Ideal) x1 x5 x6), (val_main_v20 (F := Ideal) x1 x5 x6), (val_main_v21 (F := Ideal) x1 x5 x6), (val_main_v22 (F := Ideal) x1 x5 x6), (val_main_v23 (F := Ideal) x1 x5 x6), (val_main_v24 (F := Ideal) x1 x5 x6), (val_main_v25 (F := Ideal) x1 x5 x6), (val_main_v26 (F := Ideal) x1 x5 x6), (val_main_v27 (F := Ideal) x1 x5 x6), (val_main_v28 (F := Ideal) x1 x5 x6), (val_main_v29 (F := Ideal) x1 x5 x6), (val_main_v30 (F := Ideal) x1 x5 x6)]) concatenates_S4x16x1x64_S4x16x1x64_S4x16x1x64_S4x16x1x64_S4x16x1x64_S4x16x1x64_S4x16x1x64_S4x16x1x64_S4x16x1x64_S4x16x1x64_S4x16x1x64_S4x16x1x64_S4x16x1x64_S4x16x1x64_S4x16x1x64_S4x16x1x64_S4x16x16x64_d2 rfl rfl (ix4 B h n d) n rfl
    (ix4 B h 0 d) ?_).trans ?_
  · intro b hb
    fin_cases b
    · rfl
    · rfl
    · exact absurd rfl hb
    · rfl
  · fin_cases n
    · show (val_main_v15 (F := Ideal) x1 x5 x6) (ix4 B h 0 d) = _
      pointwise [val_main_v15]
      rfl
    · show (val_main_v16 (F := Ideal) x1 x5 x6) (ix4 B h 0 d) = _
      pointwise [val_main_v16]
      rfl
    · show (val_main_v17 (F := Ideal) x1 x5 x6) (ix4 B h 0 d) = _
      pointwise [val_main_v17]
      rfl
    · show (val_main_v18 (F := Ideal) x1 x5 x6) (ix4 B h 0 d) = _
      pointwise [val_main_v18]
      rfl
    · show (val_main_v19 (F := Ideal) x1 x5 x6) (ix4 B h 0 d) = _
      pointwise [val_main_v19]
      rfl
    · show (val_main_v20 (F := Ideal) x1 x5 x6) (ix4 B h 0 d) = _
      pointwise [val_main_v20]
      rfl
    · show (val_main_v21 (F := Ideal) x1 x5 x6) (ix4 B h 0 d) = _
      pointwise [val_main_v21]
      rfl
    · show (val_main_v22 (F := Ideal) x1 x5 x6) (ix4 B h 0 d) = _
      pointwise [val_main_v22]
      rfl
    · show (val_main_v23 (F := Ideal) x1 x5 x6) (ix4 B h 0 d) = _
      pointwise [val_main_v23]
      rfl
    · show (val_main_v24 (F := Ideal) x1 x5 x6) (ix4 B h 0 d) = _
      pointwise [val_main_v24]
      rfl
    · show (val_main_v25 (F := Ideal) x1 x5 x6) (ix4 B h 0 d) = _
      pointwise [val_main_v25]
      rfl
    · show (val_main_v26 (F := Ideal) x1 x5 x6) (ix4 B h 0 d) = _
      pointwise [val_main_v26]
      rfl
    · show (val_main_v27 (F := Ideal) x1 x5 x6) (ix4 B h 0 d) = _
      pointwise [val_main_v27]
      rfl
    · show (val_main_v28 (F := Ideal) x1 x5 x6) (ix4 B h 0 d) = _
      pointwise [val_main_v28]
      rfl
    · show (val_main_v29 (F := Ideal) x1 x5 x6) (ix4 B h 0 d) = _
      pointwise [val_main_v29]
      rfl
    · show (val_main_v30 (F := Ideal) x1 x5 x6) (ix4 B h 0 d) = _
      pointwise [val_main_v30]
      rfl

/-- The last sixteen sampled key rows. -/
theorem sampled_hi (B : Fin 4) (h : Fin 16) (n : Fin 16) (d : Fin 64) :
    (val_main_v48 (F := Ideal) x1 x5 x6) (ix4 B h n d) = (val_main_v9 (F := Ideal) x1 x5 x6) (ix4 B h (sample ⟨n.val + 16, by omega⟩) d) := by
  unfold val_main_v48
  refine (concatenate_ofFn_unit_apply (N := 16) (s₁ := S4x16x1x64) (2 : Fin S4x16x16x64.rank)
    (![(val_main_v31 (F := Ideal) x1 x5 x6), (val_main_v32 (F := Ideal) x1 x5 x6), (val_main_v33 (F := Ideal) x1 x5 x6), (val_main_v34 (F := Ideal) x1 x5 x6), (val_main_v35 (F := Ideal) x1 x5 x6), (val_main_v36 (F := Ideal) x1 x5 x6), (val_main_v37 (F := Ideal) x1 x5 x6), (val_main_v38 (F := Ideal) x1 x5 x6), (val_main_v39 (F := Ideal) x1 x5 x6), (val_main_v40 (F := Ideal) x1 x5 x6), (val_main_v41 (F := Ideal) x1 x5 x6), (val_main_v42 (F := Ideal) x1 x5 x6), (val_main_v43 (F := Ideal) x1 x5 x6), (val_main_v44 (F := Ideal) x1 x5 x6), (val_main_v45 (F := Ideal) x1 x5 x6), (val_main_v46 (F := Ideal) x1 x5 x6)]) concatenates_S4x16x1x64_S4x16x1x64_S4x16x1x64_S4x16x1x64_S4x16x1x64_S4x16x1x64_S4x16x1x64_S4x16x1x64_S4x16x1x64_S4x16x1x64_S4x16x1x64_S4x16x1x64_S4x16x1x64_S4x16x1x64_S4x16x1x64_S4x16x1x64_S4x16x16x64_d2 rfl rfl (ix4 B h n d) n rfl
    (ix4 B h 0 d) ?_).trans ?_
  · intro b hb
    fin_cases b
    · rfl
    · rfl
    · exact absurd rfl hb
    · rfl
  · fin_cases n
    · show (val_main_v31 (F := Ideal) x1 x5 x6) (ix4 B h 0 d) = _
      pointwise [val_main_v31]
      rfl
    · show (val_main_v32 (F := Ideal) x1 x5 x6) (ix4 B h 0 d) = _
      pointwise [val_main_v32]
      rfl
    · show (val_main_v33 (F := Ideal) x1 x5 x6) (ix4 B h 0 d) = _
      pointwise [val_main_v33]
      rfl
    · show (val_main_v34 (F := Ideal) x1 x5 x6) (ix4 B h 0 d) = _
      pointwise [val_main_v34]
      rfl
    · show (val_main_v35 (F := Ideal) x1 x5 x6) (ix4 B h 0 d) = _
      pointwise [val_main_v35]
      rfl
    · show (val_main_v36 (F := Ideal) x1 x5 x6) (ix4 B h 0 d) = _
      pointwise [val_main_v36]
      rfl
    · show (val_main_v37 (F := Ideal) x1 x5 x6) (ix4 B h 0 d) = _
      pointwise [val_main_v37]
      rfl
    · show (val_main_v38 (F := Ideal) x1 x5 x6) (ix4 B h 0 d) = _
      pointwise [val_main_v38]
      rfl
    · show (val_main_v39 (F := Ideal) x1 x5 x6) (ix4 B h 0 d) = _
      pointwise [val_main_v39]
      rfl
    · show (val_main_v40 (F := Ideal) x1 x5 x6) (ix4 B h 0 d) = _
      pointwise [val_main_v40]
      rfl
    · show (val_main_v41 (F := Ideal) x1 x5 x6) (ix4 B h 0 d) = _
      pointwise [val_main_v41]
      rfl
    · show (val_main_v42 (F := Ideal) x1 x5 x6) (ix4 B h 0 d) = _
      pointwise [val_main_v42]
      rfl
    · show (val_main_v43 (F := Ideal) x1 x5 x6) (ix4 B h 0 d) = _
      pointwise [val_main_v43]
      rfl
    · show (val_main_v44 (F := Ideal) x1 x5 x6) (ix4 B h 0 d) = _
      pointwise [val_main_v44]
      rfl
    · show (val_main_v45 (F := Ideal) x1 x5 x6) (ix4 B h 0 d) = _
      pointwise [val_main_v45]
      rfl
    · show (val_main_v46 (F := Ideal) x1 x5 x6) (ix4 B h 0 d) = _
      pointwise [val_main_v46]
      rfl

/-- The array of sampled key rows holds, for each head, the keys at the sampled positions. -/
theorem sampled_at (B : Fin 4) (h : Fin 16) (n : Fin 32) (d : Fin 64) :
    (val_main_v49 (F := Ideal) x1 x5 x6) (ix4 B h n d) = (val_main_v9 (F := Ideal) x1 x5 x6) (ix4 B h (sample n) d) := by
  pointwise [val_main_v49]
  split
  · exact (sampled_lo x1 x5 x6 B h _ d)
  · rename_i hn
    refine (sampled_hi x1 x5 x6 B h _ d).trans ?_
    refine congrArg (fun n => (val_main_v9 (F := Ideal) x1 x5 x6) (ix4 B h (sample n) d)) (Fin.ext ?_)
    show n.val - 16 + 16 = n.val
    omega

/-- A query's products with the sampled keys. -/
theorem products_at (B : Fin 4) (h : Fin 16) (l : Fin 2048) (n : Fin 32) :
    (val_main_v50 (F := Ideal) x0 x1 x3 x4 x5 x6) (ix4 B h l n) = ∑ d, (val_main_v49 (F := Ideal) x1 x5 x6) (ix4 B h n d) * (val_main_v4 (F := Ideal) x0 x3 x4) (ix4 B h l d) := by
  pointwise [val_main_v50]
  exact Finset.sum_congr rfl fun k _ => mul_comm _ _

/-- A maximum over the sampled keys, at an entry. -/
theorem max_keys (y : S4x16x2048x32.Idx → EReal) (b : S_.Idx → EReal) (B : Fin 4) (h : Fin 16) (l : Fin 2048) :
    Host.reduce (max : EReal → EReal → EReal) y b reducesTo_S4x16x2048x32_S4x16x2048_d3 h_S_ (ix3 B h l)
      = Finset.univ.fold max (b (Shape.Idx.first h_S_)) fun n => y (ix4 B h l n) :=
  (Host.reduce_eq_fold max y b _ _ _).trans
    (Shape.ReducesTo.fold_fiber_r4_a3 reducesTo_S4x16x2048x32_S4x16x2048_d3 (ix3 B h l) max _ y)

/-- A maximum over the positions, at an entry. -/
theorem max_positions (y : S4x16x32x2048.Idx → EReal) (b : S_.Idx → EReal) (B : Fin 4) (h : Fin 16) (n : Fin 32) :
    Host.reduce (max : EReal → EReal → EReal) y b reducesTo_S4x16x32x2048_S4x16x32_d3 h_S_ (ix3 B h n)
      = Finset.univ.fold max (b (Shape.Idx.first h_S_)) fun l => y (ix4 B h n l) :=
  (Host.reduce_eq_fold max y b _ _ _).trans
    (Shape.ReducesTo.fold_fiber_r4_a3 reducesTo_S4x16x32x2048_S4x16x32_d3 (ix3 B h n) max _ y)

/-- The largest of a query's products with the sampled keys. -/
theorem largest_at (B : Fin 4) (h : Fin 16) (l : Fin 2048) :
    (val_main_v51 (F := Ideal) x0 x1 x3 x4 x5 x6) (ix3 B h l) = Finset.univ.fold max ⊥ fun n => (val_main_v50 (F := Ideal) x0 x1 x3 x4 x5 x6) (ix4 B h l n) :=
  (max_keys (val_main_v50 (F := Ideal) x0 x1 x3 x4 x5 x6) (val_main_cst (F := Ideal)) B h l).trans
    (congrArg (fun b => Finset.univ.fold max b fun n => (val_main_v50 (F := Ideal) x0 x1 x3 x4 x5 x6) (ix4 B h l n)) negInf)

/-- The mean of a query's products with the sampled keys. -/
theorem mean_product_at (B : Fin 4) (h : Fin 16) (l : Fin 2048) :
    (val_main_v54 (F := Ideal) x0 x1 x3 x4 x5 x6) (ix3 B h l) = Ideal.div (∑ n, (val_main_v50 (F := Ideal) x0 x1 x3 x4 x5 x6) (ix4 B h l n)) (Ideal.ofBits FTy.f32 0x42000000#32) := by
  pointwise [val_main_v54, val_main_v53, val_main_v52, val_main_cst_0, val_main_cst_1]

/-- The reference's sparsity measure. -/
theorem measure_at (B : Fin 4) (h : Fin 16) (l : Fin 2048) :
    (val_main_v55 (F := Ideal) x0 x1 x3 x4 x5 x6) (ix3 B h l) = measures (headsOf x0 x3 x4) (headsOf x1 x5 x6) B h l := by
  have e : ∀ n, (val_main_v50 (F := Ideal) x0 x1 x3 x4 x5 x6) (ix4 B h l n) = ∑ d, (headsOf x1 x5 x6) B h (sample n) d * (headsOf x0 x3 x4) B h l d := fun n =>
    (products_at x0 x1 x3 x4 x5 x6 B h l n).trans (Finset.sum_congr rfl fun d _ =>
      congrArg₂ (fun a b : EReal => a * b) ((sampled_at x1 x5 x6 B h n d).trans (key_at x1 x5 x6 B h (sample n) d))
        (query_at x0 x3 x4 B h l d))
  refine (val_main_v55_apply x0 x1 x3 x4 x5 x6 _).trans ?_
  refine congrArg₂ (fun a b : EReal => a - b) ((largest_at x0 x1 x3 x4 x5 x6 B h l).trans ?_)
    ((mean_product_at x0 x1 x3 x4 x5 x6 B h l).trans ?_)
  · exact congrArg (fun f => Finset.univ.fold max ⊥ f) (funext e)
  · exact congrArg (fun t => Ideal.div t _) (Finset.sum_congr rfl fun n _ => e n)

end Cert.ReferenceIdeal.Read

end
-- ==== Proof.RefShape.lean ====
/- Taking, sorting and writing rows by position, and the product with the output projection, at an entry, for any arrays. -/
module

public import proofs.«01_k».proof.Proof.Gen.ReferenceIdeal.Read
public import proofs.«01_k».proof.Proof.Whole
public import proofs.«01_k».proof.Proof.TopkMath
public import proofs.«01_k».proof.Proof.Words
public import Idealize.ShloMosaic.Lib.Routing.OpsSet
public import Idealize.ShloMosaic.Lib.Routing.OpsPair

@[expose] public section

set_option maxRecDepth 16384

noncomputable section

namespace Cert.ReferenceIdeal.Read

open Cert.ReferenceIdeal Cert.ReferenceIdeal.Gen Idealize.ShloMosaic Idealize.ShloMosaic.TcCoe Idealize.ShloMosaic.Tactic Cert.Spec Cert.Words

/-- Taking rows by position: the row taken is the one its index word names. -/
theorem gather_rows (y : S4x16x2048x64.Idx → EReal) (idx : IVec S4x16x32x1 32) (p : Fin 2048) (B : Fin 4) (h : Fin 16) (n : Fin 32) (d : Fin 64)
    (hp : idx (ix4 B h n 0) = BitVec.ofNat 32 p.val) :
    Host.gather gather_S4x16x2048x64_S4x16x32x1_S4x16x32x64_3_2_01_01_2_3_11164 y idx (ix4 B h n d) = y (ix4 B h p d) := by
  unfold Host.gather
  refine congrArg y (funext fun a => Fin.ext ?_)
  show GatherDims.start _ (ix4 B h n d) idx a + GatherDims.batchCoord _ (ix4 B h n d) a + GatherDims.offCoord _ (ix4 B h n d) a = _
  fin_cases a
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.start_batching _ _ _ _ (by decide), GatherDims.offCoord_eq_zero _ _ _ (by decide)]
    simp only [Nat.zero_add, Nat.add_zero]
    unfold GatherDims.batchCoord
    rw [dif_pos (by decide)]
    rfl
  · rw [GatherDims.batchCoord_eq_zero _ _ _ (by decide), GatherDims.offCoord_eq_zero _ _ _ (by decide)]
    simp only [Nat.add_zero]
    unfold GatherDims.start
    rw [dif_pos (by decide)]
    have e : ∀ k : Fin 1, gather_S4x16x2048x64_S4x16x32x1_S4x16x32x64_3_2_01_01_2_3_11164.siIdx (ix4 B h n d) k = ix4 B h n 0 := by
      intro k
      funext b
      refine Fin.ext ?_
      match b with
      | ⟨0, _⟩ => rfl
      | ⟨1, _⟩ => rfl
      | ⟨2, _⟩ => rfl
      | ⟨3, _⟩ => exact congrArg Fin.val (Subsingleton.elim (α := Fin 1) _ _)
    refine (congrArg (fun w : BitVec 32 => min w.toInt.toNat 2047) ((congrArg idx (e _)).trans hp)).trans ?_
    show min (BitVec.ofNat 32 p.val).toInt.toNat 2047 = p.val
    have := p.isLt
    have h1 : (BitVec.ofNat 32 p.val).toNat = p.val := by rw [BitVec.toNat_ofNat]; omega
    rw [BitVec.toInt_eq_toNat_of_lt (by rw [h1]; omega), h1]
    omega
  · rw [GatherDims.start, dif_neg (by decide), GatherDims.batchCoord_eq_zero _ _ _ (by decide)]
    simp only [Nat.zero_add, Nat.add_zero]
    unfold GatherDims.offCoord
    rw [dif_pos (by decide)]
    rfl

/-- The second array of a sort of two, at an index. -/
theorem sort2_snd (s : Shape) (d : ℕ) (hd : d < s.rank) {α β : Type} (cmp : α × β → α × β → BitVec 1) (x : s.Idx → α) (y : s.Idx → β) (j : s.Idx) :
    (Host.sort2 s d cmp x y).2 j = y (j.along ⟨d, hd⟩ (sortedFrom (fun k k' =>
      cmp (x (j.along ⟨d, hd⟩ k), y (j.along ⟨d, hd⟩ k)) (x (j.along ⟨d, hd⟩ k'), y (j.along ⟨d, hd⟩ k')) == 1#1) (j ⟨d, hd⟩))) := by
  unfold Host.sort2
  rw [dif_pos hd]

/-- Moving an index along the last of three axes. -/
theorem along_ix3 (B : Fin 4) (h : Fin 16) (l k : Fin 2048) :
    Shape.Idx.along (s := S4x16x2048) (ix3 B h l) 2 k = ix3 B h k := by
  funext a
  unfold Shape.Idx.along
  fin_cases a
  · exact Function.update_of_ne (by decide) _ _
  · exact Function.update_of_ne (by decide) _ _
  · exact Function.update_self _ _ _

/-- The leading thirty-two of the sorted positions. -/
theorem slice_ix3 (z : S4x16x2048.Idx → BitVec 32) (B : Fin 4) (h : Fin 16) (n : Fin 32) :
    extractStridedSlice S4x16x32 (fun _ => 0) z sliceFits_S4x16x2048_S4x16x32 (ix3 B h n)
      = z (ix3 B h (n.castLE (by decide))) := by
  unfold extractStridedSlice
  refine congrArg z (funext fun a => Fin.ext ?_)
  fin_cases a
  · exact Nat.zero_add _
  · exact Nat.zero_add _
  · exact Nat.zero_add _

/-- The positions of the thirty-two greatest entries are those picked by taking the greatest again and again. -/
theorem top_positions (y : S4x16x2048.Idx → EReal) (B : Fin 4) (h : Fin 16) (n : Fin 32) (hf : ∀ l, y (ix3 B h l) ≠ ⊥) :
    (Host.topK S4x16x32 2 (FloatOps.cmpfTotal (F := Ideal) (φ := FTy.f32) .gt) y sliceFits_S4x16x2048_S4x16x32).2 (ix3 B h n)
      = BitVec.ofNat 32 (Cert.Topk.pick (fun l => y (ix3 B h l)) n.val).val := by
  unfold Host.topK
  dsimp only
  refine (slice_ix3 _ B h n).trans ?_
  refine (sort2_snd S4x16x2048 2 (by decide) _ y _ _).trans ?_
  rw [dif_pos (by decide)]
  refine (congrArg (iotaInDim S4x16x2048 32 2) (along_ix3 B h _ _)).trans ?_
  show BitVec.ofNat 32 (Fin.val _) = _
  refine congrArg (fun p : Fin 2048 => BitVec.ofNat 32 p.val) ?_
  refine Eq.trans ?_ (Cert.Topk.sortedFrom_eq_pick (f := fun l => y (ix3 B h l)) hf (k := 32) (by decide) n)
  refine congrArg (fun R => sortedFrom R (n.castLE (by decide))) (funext fun k => funext fun k' => ?_)
  have hb : ∀ b : Bool, (BitVec.ofBool b == 1#1) = b := by decide
  refine (hb _).trans ?_
  exact congrArg₂ (fun a b : EReal => decide (b < a)) (congrArg y (along_ix3 B h _ k)) (congrArg y (along_ix3 B h _ k'))

open Idealize.ShloMosaic.Routing in
/-- Where a written row lands. -/
theorem lands (idx : IVec S4x16x32x3 32) (p : Fin 4 → Fin 16 → Fin 32 → Fin 2048)
    (h0 : ∀ B h n, idx (ix4 B h n 0) = BitVec.ofNat 32 B.val) (h1 : ∀ B h n, idx (ix4 B h n 1) = BitVec.ofNat 32 h.val)
    (h2 : ∀ B h n, idx (ix4 B h n 2) = BitVec.ofNat 32 (p B h n).val)
    (B B' : Fin 4) (h h' : Fin 16) (n : Fin 32) (l : Fin 2048) (d d' : Fin 64) :
    ScatterDims.resultIdx? scatter_S4x16x2048x64_S4x16x32x3_S4x16x32x64_3_012_012_3 (ix4 B h n d) idx = some (ix4 B' h' l d') ↔ B = B' ∧ h = h' ∧ p B h n = l ∧ d = d' := by
  have w : ∀ m : ℕ, m < 2048 → (BitVec.ofNat 32 m).toInt = (m : Int) := fun m hm => by
    have h1 : (BitVec.ofNat 32 m).toNat = m := by rw [BitVec.toNat_ofNat]; omega
    rw [BitVec.toInt_eq_toNat_of_lt (by rw [h1]; omega), h1]
  have s0 : ScatterDims.start scatter_S4x16x2048x64_S4x16x32x3_S4x16x32x64_3_012_012_3 (ix4 B h n d) idx 0 = (B.val : Int) := by
    refine Eq.trans ?_ ((congrArg BitVec.toInt (h0 B h n)).trans (w _ (by omega)))
    rw [ScatterDims.start, dif_pos (by decide)]
    refine congrArg BitVec.toInt (congrArg idx (funext fun b => Fin.ext ?_))
    match b with
    | ⟨0, _⟩ => rfl
    | ⟨1, _⟩ => rfl
    | ⟨2, _⟩ => rfl
    | ⟨3, _⟩ => rfl
  have s1 : ScatterDims.start scatter_S4x16x2048x64_S4x16x32x3_S4x16x32x64_3_012_012_3 (ix4 B h n d) idx 1 = (h.val : Int) := by
    refine Eq.trans ?_ ((congrArg BitVec.toInt (h1 B h n)).trans (w _ (by omega)))
    rw [ScatterDims.start, dif_pos (by decide)]
    refine congrArg BitVec.toInt (congrArg idx (funext fun b => Fin.ext ?_))
    match b with
    | ⟨0, _⟩ => rfl
    | ⟨1, _⟩ => rfl
    | ⟨2, _⟩ => rfl
    | ⟨3, _⟩ => rfl
  have s2 : ScatterDims.start scatter_S4x16x2048x64_S4x16x32x3_S4x16x32x64_3_012_012_3 (ix4 B h n d) idx 2 = ((p B h n).val : Int) := by
    refine Eq.trans ?_ ((congrArg BitVec.toInt (h2 B h n)).trans (w _ (by omega)))
    rw [ScatterDims.start, dif_pos (by decide)]
    refine congrArg BitVec.toInt (congrArg idx (funext fun b => Fin.ext ?_))
    match b with
    | ⟨0, _⟩ => rfl
    | ⟨1, _⟩ => rfl
    | ⟨2, _⟩ => rfl
    | ⟨3, _⟩ => rfl
  have s3 : ScatterDims.start scatter_S4x16x2048x64_S4x16x32x3_S4x16x32x64_3_012_012_3 (ix4 B h n d) idx 3 = 0 := by
    rw [ScatterDims.start, dif_neg (by decide)]
  have w0 : ScatterDims.window scatter_S4x16x2048x64_S4x16x32x3_S4x16x32x64_3_012_012_3 (ix4 B h n d) 0 = 0 := by rw [ScatterDims.window, dif_neg (by decide)]
  have w1 : ScatterDims.window scatter_S4x16x2048x64_S4x16x32x3_S4x16x32x64_3_012_012_3 (ix4 B h n d) 1 = 0 := by rw [ScatterDims.window, dif_neg (by decide)]
  have w2 : ScatterDims.window scatter_S4x16x2048x64_S4x16x32x3_S4x16x32x64_3_012_012_3 (ix4 B h n d) 2 = 0 := by rw [ScatterDims.window, dif_neg (by decide)]
  have w3 : ScatterDims.window scatter_S4x16x2048x64_S4x16x32x3_S4x16x32x64_3_012_012_3 (ix4 B h n d) 3 = d.val := by
    rw [ScatterDims.window, dif_pos (by decide)]
    rfl
  rw [resultIdx?_eq_some]
  constructor
  · intro q
    have q0 := q 0
    have q1 := q 1
    have q2 := q 2
    have q3 := q 3
    rw [s0, w0] at q0
    rw [s1, w1] at q1
    rw [s2, w2] at q2
    rw [s3, w3] at q3
    change (B.val : Int) + ((0 : ℕ) : Int) = (B'.val : Int) at q0
    change (h.val : Int) + ((0 : ℕ) : Int) = (h'.val : Int) at q1
    change ((p B h n).val : Int) + ((0 : ℕ) : Int) = (l.val : Int) at q2
    change (0 : Int) + (d.val : Int) = (d'.val : Int) at q3
    exact ⟨Fin.ext (by omega), Fin.ext (by omega), Fin.ext (by omega), Fin.ext (by omega)⟩
  · rintro ⟨rfl, rfl, rfl, rfl⟩ a
    fin_cases a
    · exact (congrArg₂ (fun (x : Int) (y : ℕ) => x + (y : Int)) s0 w0).trans (Int.add_zero _)
    · exact (congrArg₂ (fun (x : Int) (y : ℕ) => x + (y : Int)) s1 w1).trans (Int.add_zero _)
    · exact (congrArg₂ (fun (x : Int) (y : ℕ) => x + (y : Int)) s2 w2).trans (Int.add_zero _)
    · exact (congrArg₂ (fun (x : Int) (y : ℕ) => x + (y : Int)) s3 w3).trans (Int.zero_add _)

open Idealize.ShloMosaic.Routing Classical in
/-- Writing rows by position: a position that is named holds the row written there, any other keeps what it held. -/
theorem scatter_rows (y : S4x16x2048x64.Idx → EReal) (idx : IVec S4x16x32x3 32) (u : S4x16x32x64.Idx → EReal) (p : Fin 4 → Fin 16 → Fin 32 → Fin 2048)
    (h0 : ∀ B h n, idx (ix4 B h n 0) = BitVec.ofNat 32 B.val) (h1 : ∀ B h n, idx (ix4 B h n 1) = BitVec.ofNat 32 h.val)
    (h2 : ∀ B h n, idx (ix4 B h n 2) = BitVec.ofNat 32 (p B h n).val)
    (c : Fin 4 → Fin 16 → Fin 2048 → Fin 64 → EReal) (hu : ∀ B h n d, u (ix4 B h n d) = c B h (p B h n) d)
    (B : Fin 4) (h : Fin 16) (l : Fin 2048) (d : Fin 64) :
    Host.scatter scatter_S4x16x2048x64_S4x16x32x3_S4x16x32x64_3_012_012_3 (fun _ b => b) y idx u (ix4 B h l d) = if ∃ n, p B h n = l then c B h l d else y (ix4 B h l d) := by
  split
  · rename_i hn
    obtain ⟨n, hn⟩ := hn
    refine scatter_set_hit _ y idx u (ix4 B h l d) (c B h l d) (fun k hk => ?_) (ix4 B h n d)
      ((lands idx p h0 h1 h2 B B h h n l d d).2 ⟨rfl, rfl, hn, rfl⟩)
    obtain ⟨B', h', n', d', rfl⟩ : ∃ (B' : Fin 4) (h' : Fin 16) (n' : Fin 32) (d' : Fin 64), k = ix4 B' h' n' d' :=
      ⟨k 0, k 1, k 2, k 3, eq_ix4 k⟩
    obtain ⟨rfl, rfl, rfl, rfl⟩ := (lands idx p h0 h1 h2 _ _ _ _ _ _ _ _).1 hk
    exact hu _ _ _ _
  · rename_i hn
    refine scatter_set_miss _ y idx u (ix4 B h l d) fun k hk => hn ?_
    obtain ⟨B', h', n', d', rfl⟩ : ∃ (B' : Fin 4) (h' : Fin 16) (n' : Fin 32) (d' : Fin 64), k = ix4 B' h' n' d' :=
      ⟨k 0, k 1, k 2, k 3, eq_ix4 k⟩
    obtain ⟨rfl, rfl, e, rfl⟩ := (lands idx p h0 h1 h2 _ _ _ _ _ _ _ _).1 hk
    exact ⟨n', e⟩

/-- The product with the output projection, summed over heads and head coordinates. -/
theorem contract_heads (y : S4x16x2048x64.Idx → EReal) (z : S16x64x1024.Idx → EReal) (B : Fin 4) (l : Fin 2048) (o : Fin 1024) :
    Host.dotGeneral (F := Ideal) (φ₁ := FTy.f32) (φ₂ := FTy.f32) dot_S4x16x2048x64_S16x64x1024_S4x2048x1024_13_01_02_2_n_n none y z (ix3 B l o) = ∑ h : Fin 16, ∑ d : Fin 64, y (ix4 B h l d) * z (ix3 h d o) := by
  simp only [Host.dotGeneral]
  rw [Ideal.dotGeneral_apply, DotDims.sum_contr₂ dot_S4x16x2048x64_S16x64x1024_S4x2048x1024_13_01_02_2_n_n (a := 1) (b := 3) rfl (K₁ := 16) (K₂ := 64) rfl rfl]
  refine Finset.sum_congr rfl fun h _ => Finset.sum_congr rfl fun d _ => ?_
  refine congrArg₂ (fun a b : EReal => a * b) (congrArg y (funext fun a => Fin.ext ?_)) (congrArg z (funext fun a => Fin.ext ?_))
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

/-- A position is not negative, so wrapping negative positions around leaves it. -/
theorem word_kept (p : ℕ) (hp : p < 2048) (x : BitVec 32) :
    Scalar.select (IntOp.cmpi CmpIPredicate.slt (BitVec.ofNat 32 p) 0#32) x (BitVec.ofNat 32 p) = BitVec.ofNat 32 p := by
  have h : (BitVec.ofNat 32 p).slt 0#32 = false := by
    have h1 : (BitVec.ofNat 32 p).toNat = p := by rw [BitVec.toNat_ofNat]; omega
    have h2 : (BitVec.ofNat 32 p).toInt = (p : Int) := by rw [BitVec.toInt_eq_toNat_of_lt (by rw [h1]; omega), h1]
    rw [BitVec.slt_eq_decide, h2]
    simp
  unfold IntOp.cmpi
  simp only [h]
  rfl

/-- Column 0 of an array of index triples put together from its three columns. -/
theorem piece0 (y0 y1 y2 : S4x16x32x1.Idx → BitVec 32) (B : Fin 4) (h : Fin 16) (n : Fin 32) :
    concatenate S4x16x32x3 3 [⟨S4x16x32x1, y0⟩, ⟨S4x16x32x1, y1⟩, ⟨S4x16x32x1, y2⟩] concatenates_S4x16x32x1_S4x16x32x1_S4x16x32x1_S4x16x32x3_d3 (ix4 B h n 0) = y0 (ix4 B h n 0) := by
  refine concatenate_ofFn_unit_apply (N := 3) (s₁ := S4x16x32x1) (3 : Fin S4x16x32x3.rank) (![y0, y1, y2]) concatenates_S4x16x32x1_S4x16x32x1_S4x16x32x1_S4x16x32x3_d3 rfl rfl
    (ix4 B h n 0) 0 rfl (ix4 B h n 0) fun b hb => ?_
  fin_cases b
  · rfl
  · rfl
  · rfl
  · exact absurd rfl hb

/-- Column 1 of an array of index triples put together from its three columns. -/
theorem piece1 (y0 y1 y2 : S4x16x32x1.Idx → BitVec 32) (B : Fin 4) (h : Fin 16) (n : Fin 32) :
    concatenate S4x16x32x3 3 [⟨S4x16x32x1, y0⟩, ⟨S4x16x32x1, y1⟩, ⟨S4x16x32x1, y2⟩] concatenates_S4x16x32x1_S4x16x32x1_S4x16x32x1_S4x16x32x3_d3 (ix4 B h n 1) = y1 (ix4 B h n 0) := by
  refine concatenate_ofFn_unit_apply (N := 3) (s₁ := S4x16x32x1) (3 : Fin S4x16x32x3.rank) (![y0, y1, y2]) concatenates_S4x16x32x1_S4x16x32x1_S4x16x32x1_S4x16x32x3_d3 rfl rfl
    (ix4 B h n 1) 1 rfl (ix4 B h n 0) fun b hb => ?_
  fin_cases b
  · rfl
  · rfl
  · rfl
  · exact absurd rfl hb

/-- Column 2 of an array of index triples put together from its three columns. -/
theorem piece2 (y0 y1 y2 : S4x16x32x1.Idx → BitVec 32) (B : Fin 4) (h : Fin 16) (n : Fin 32) :
    concatenate S4x16x32x3 3 [⟨S4x16x32x1, y0⟩, ⟨S4x16x32x1, y1⟩, ⟨S4x16x32x1, y2⟩] concatenates_S4x16x32x1_S4x16x32x1_S4x16x32x1_S4x16x32x3_d3 (ix4 B h n 2) = y2 (ix4 B h n 0) := by
  refine concatenate_ofFn_unit_apply (N := 3) (s₁ := S4x16x32x1) (3 : Fin S4x16x32x3.rank) (![y0, y1, y2]) concatenates_S4x16x32x1_S4x16x32x1_S4x16x32x1_S4x16x32x3_d3 rfl rfl
    (ix4 B h n 2) 2 rfl (ix4 B h n 0) fun b hb => ?_
  fin_cases b
  · rfl
  · rfl
  · rfl
  · exact absurd rfl hb

end Cert.ReferenceIdeal.Read

end
-- ==== Proof.RefIndex.lean ====
/- The index arrays of the reference, read at an entry. -/
module

public import proofs.«01_k».proof.Proof.Gen.ReferenceIdeal.Read
public import proofs.«01_k».proof.Proof.Whole
public import proofs.«01_k».proof.Proof.RefShape

@[expose] public section

set_option maxRecDepth 16384

noncomputable section

namespace Cert.ReferenceIdeal.Read

open Cert.ReferenceIdeal Cert.ReferenceIdeal.Gen Idealize.ShloMosaic Idealize.ShloMosaic.TcCoe Idealize.ShloMosaic.Tactic Cert.Spec Cert.Words

variable (x0 : (⟨S4x2048x1024, .f32⟩ : BufTy).Contents (Elt Ideal)) (x1 : (⟨S4x2048x1024, .f32⟩ : BufTy).Contents (Elt Ideal)) (x2 : (⟨S4x2048x1024, .f32⟩ : BufTy).Contents (Elt Ideal)) (x3 : (⟨S1024x16x64, .f32⟩ : BufTy).Contents (Elt Ideal)) (x4 : (⟨S16x64, .f32⟩ : BufTy).Contents (Elt Ideal)) (x5 : (⟨S1024x16x64, .f32⟩ : BufTy).Contents (Elt Ideal)) (x6 : (⟨S16x64, .f32⟩ : BufTy).Contents (Elt Ideal)) (x7 : (⟨S1024x16x64, .f32⟩ : BufTy).Contents (Elt Ideal)) (x8 : (⟨S16x64, .f32⟩ : BufTy).Contents (Elt Ideal)) (x9 : (⟨S16x64x1024, .f32⟩ : BufTy).Contents (Elt Ideal)) (x10 : (⟨S1024, .f32⟩ : BufTy).Contents (Elt Ideal)) (x11 : (⟨S1024, .f32⟩ : BufTy).Contents (Elt Ideal)) (x12 : (⟨S1024, .f32⟩ : BufTy).Contents (Elt Ideal)) (x13 : (⟨S1024x4096, .f32⟩ : BufTy).Contents (Elt Ideal)) (x14 : (⟨S4096, .f32⟩ : BufTy).Contents (Elt Ideal)) (x15 : (⟨S4096x1024, .f32⟩ : BufTy).Contents (Elt Ideal)) (x16 : (⟨S1024, .f32⟩ : BufTy).Contents (Elt Ideal)) (x17 : (⟨S1024, .f32⟩ : BufTy).Contents (Elt Ideal)) (x18 : (⟨S1024, .f32⟩ : BufTy).Contents (Elt Ideal))

/-- Column 0 of the index triples. -/
theorem column0_at (B : Fin 4) (h : Fin 16) (n : Fin 32) :
    (val_main_v102 (F := Ideal) x0 x1 x3 x4 x5 x6) (ix4 B h n 0) = (val_main_v99 (F := Ideal) ) (ix4 B h n 0) := by
  unfold val_main_v102
  exact piece0 _ _ _ B h n

/-- Column 1 of the index triples. -/
theorem column1_at (B : Fin 4) (h : Fin 16) (n : Fin 32) :
    (val_main_v102 (F := Ideal) x0 x1 x3 x4 x5 x6) (ix4 B h n 1) = (val_main_v100 (F := Ideal) ) (ix4 B h n 0) := by
  unfold val_main_v102
  exact piece1 _ _ _ B h n

/-- Column 2 of the index triples. -/
theorem column2_at (B : Fin 4) (h : Fin 16) (n : Fin 32) :
    (val_main_v102 (F := Ideal) x0 x1 x3 x4 x5 x6) (ix4 B h n 2) = (val_main_v101 (F := Ideal) x0 x1 x3 x4 x5 x6) (ix4 B h n 0) := by
  unfold val_main_v102
  exact piece2 _ _ _ B h n

/-- The first column holds the batch. -/
theorem batch_at (B : Fin 4) (h : Fin 16) (n : Fin 32) : val_main_v99 (F := Ideal) (ix4 B h n 0) = BitVec.ofNat 32 B.val := by
  pointwise [val_main_v99, val_main_v97, val_main_v86, val_main_v85, val_main_v84, val_main_v83, val_main_v82, val_main_v79, val_main_v78, val_main_c, val_main_c_8]
  exact word_kept _ (by omega) _

/-- The second column holds the head. -/
theorem head_at (B : Fin 4) (h : Fin 16) (n : Fin 32) : val_main_v100 (F := Ideal) (ix4 B h n 0) = BitVec.ofNat 32 h.val := by
  pointwise [val_main_v100, val_main_v98, val_main_v91, val_main_v90, val_main_v89, val_main_v88, val_main_v87, val_main_v81, val_main_v80, val_main_c_9, val_main_c_10]
  exact word_kept _ (by omega) _

/-- The third column holds the selected position. -/
theorem position_at (p : Fin 2048) (B : Fin 4) (h : Fin 16) (n : Fin 32) (e : (val_main_indices (F := Ideal) x0 x1 x3 x4 x5 x6) (ix3 B h n) = BitVec.ofNat 32 p.val) :
    (val_main_v101 (F := Ideal) x0 x1 x3 x4 x5 x6) (ix4 B h n 0) = BitVec.ofNat 32 p.val := by
  pointwise [val_main_v101, val_main_v96, val_main_v95, val_main_v94, val_main_v93, val_main_v92, val_main_c_11, val_main_c_12]
  rw [e]
  exact word_kept _ p.isLt _

/-- The index word a query row is taken by. -/
theorem taken_at (p : Fin 2048) (B : Fin 4) (h : Fin 16) (n : Fin 32) (e : (val_main_indices (F := Ideal) x0 x1 x3 x4 x5 x6) (ix3 B h n) = BitVec.ofNat 32 p.val) :
    (val_main_call0_v4 (F := Ideal) x0 x1 x3 x4 x5 x6) (ix4 B h n 0) = BitVec.ofNat 32 p.val := by
  pointwise [val_main_call0_v4, val_main_call0_v3, val_main_call0_v2, val_main_call0_v1, val_main_call0_v0, val_main_v56, val_main_call0_c, val_main_call0_c_0]
  rw [e]
  exact word_kept _ p.isLt _

end Cert.ReferenceIdeal.Read

end
-- ==== Proof.RefAttn.lean ====
/- The reference's attention: scores, softmax, context, and the rows written back at the selected positions. -/
module

public import proofs.«01_k».proof.Proof.Gen.ReferenceIdeal.Read
public import proofs.«01_k».proof.Proof.Whole
public import proofs.«01_k».proof.Proof.Words
public import proofs.«01_k».proof.Proof.RefProj
public import proofs.«01_k».proof.Proof.RefMeasure
public import proofs.«01_k».proof.Proof.RefShape
public import proofs.«01_k».proof.Proof.RefIndex

@[expose] public section

set_option maxRecDepth 16384

noncomputable section

namespace Cert.ReferenceIdeal.Read

open Cert.ReferenceIdeal Cert.ReferenceIdeal.Gen Idealize.ShloMosaic Idealize.ShloMosaic.TcCoe Idealize.ShloMosaic.Tactic Cert.Spec Cert.Words

variable (x0 : (⟨S4x2048x1024, .f32⟩ : BufTy).Contents (Elt Ideal)) (x1 : (⟨S4x2048x1024, .f32⟩ : BufTy).Contents (Elt Ideal)) (x2 : (⟨S4x2048x1024, .f32⟩ : BufTy).Contents (Elt Ideal)) (x3 : (⟨S1024x16x64, .f32⟩ : BufTy).Contents (Elt Ideal)) (x4 : (⟨S16x64, .f32⟩ : BufTy).Contents (Elt Ideal)) (x5 : (⟨S1024x16x64, .f32⟩ : BufTy).Contents (Elt Ideal)) (x6 : (⟨S16x64, .f32⟩ : BufTy).Contents (Elt Ideal)) (x7 : (⟨S1024x16x64, .f32⟩ : BufTy).Contents (Elt Ideal)) (x8 : (⟨S16x64, .f32⟩ : BufTy).Contents (Elt Ideal)) (x9 : (⟨S16x64x1024, .f32⟩ : BufTy).Contents (Elt Ideal)) (x10 : (⟨S1024, .f32⟩ : BufTy).Contents (Elt Ideal)) (x11 : (⟨S1024, .f32⟩ : BufTy).Contents (Elt Ideal)) (x12 : (⟨S1024, .f32⟩ : BufTy).Contents (Elt Ideal)) (x13 : (⟨S1024x4096, .f32⟩ : BufTy).Contents (Elt Ideal)) (x14 : (⟨S4096, .f32⟩ : BufTy).Contents (Elt Ideal)) (x15 : (⟨S4096x1024, .f32⟩ : BufTy).Contents (Elt Ideal)) (x16 : (⟨S1024, .f32⟩ : BufTy).Contents (Elt Ideal)) (x17 : (⟨S1024, .f32⟩ : BufTy).Contents (Elt Ideal)) (x18 : (⟨S1024, .f32⟩ : BufTy).Contents (Elt Ideal))

/-- Dividing by eight is multiplying by one eighth. -/
theorem eighth (t : EReal) : Ideal.div t (Ideal.ofBits FTy.f32 1090519040#32) = t * Ideal.ofBits FTy.f32 0x3E000000#32 := by
  have e8 : Ideal.ofBits FTy.f32 1090519040#32 = ((8 : ℝ) : EReal) := by
    simp [Ideal.ofBits, Ideal.ieee, -EReal.coe_mul]; norm_num
  have e1 : Ideal.ofBits FTy.f32 0x3E000000#32 = ((8⁻¹ : ℝ) : EReal) := by
    simp [Ideal.ofBits, Ideal.ieee, -EReal.coe_mul]; norm_num
  rw [e8, e1, EReal.coe_inv]
  unfold Ideal.div
  rw [if_neg]
  exact fun e => by norm_num at e

/-- The largest score of a selected query. -/
theorem top_score_at (B : Fin 4) (h : Fin 16) (n : Fin 32) :
    (val_main_v63 (F := Ideal) x0 x1 x3 x4 x5 x6) (ix3 B h n) = Finset.univ.fold max ⊥ fun l => (val_main_v60 (F := Ideal) x0 x1 x3 x4 x5 x6) (ix4 B h n l) := by
  refine (val_main_v63_apply x0 x1 x3 x4 x5 x6 _).trans ?_
  refine (congr (congrArg max ((val_main_v62_apply (F := Ideal) _).trans negInf))
    ((max_positions (val_main_v60 (F := Ideal) x0 x1 x3 x4 x5 x6) (val_main_cst_3 (F := Ideal)) B h n).trans
      (congrArg (fun b => Finset.univ.fold max b fun l => (val_main_v60 (F := Ideal) x0 x1 x3 x4 x5 x6) (ix4 B h n l)) negInf))).trans ?_
  exact max_eq_right bot_le

/-- The exponential of a score less the largest score. -/
theorem weight_at (B : Fin 4) (h : Fin 16) (n : Fin 32) (l : Fin 2048) :
    (val_main_v67 (F := Ideal) x0 x1 x3 x4 x5 x6) (ix4 B h n l) = Ideal.exp ((val_main_v60 (F := Ideal) x0 x1 x3 x4 x5 x6) (ix4 B h n l) - (val_main_v63 (F := Ideal) x0 x1 x3 x4 x5 x6) (ix3 B h n)) := by
  pointwise [val_main_v67, val_main_v66, val_main_v65, val_main_v64]

/-- A softmax entry. -/
theorem share_at (B : Fin 4) (h : Fin 16) (n : Fin 32) (l : Fin 2048) :
    (val_main_v71 (F := Ideal) x0 x1 x3 x4 x5 x6) (ix4 B h n l) = Ideal.div ((val_main_v67 (F := Ideal) x0 x1 x3 x4 x5 x6) (ix4 B h n l)) (∑ l', (val_main_v67 (F := Ideal) x0 x1 x3 x4 x5 x6) (ix4 B h n l')) := by
  pointwise [val_main_v71, val_main_v70, val_main_v69, val_main_v68, val_main_cst_5]

/-- The array the results are written into holds the mean of the values at every position. -/
theorem total_mean_at (B : Fin 4) (h : Fin 16) (l : Fin 2048) (d : Fin 64) :
    (val_main_v77 (F := Ideal) x2 x7 x8) (ix4 B h l d) = colMean fun l' => (val_main_v14 (F := Ideal) x2 x7 x8) (ix4 B h l' d) := by
  pointwise [val_main_v77, val_main_v76, val_main_v75, val_main_v74, val_main_v73, val_main_cst_6, val_main_cst_7]
  rfl

/-- A selected query's products with all keys, scaled. -/
theorem scaled_at (B : Fin 4) (h : Fin 16) (n : Fin 32) (l : Fin 2048) :
    (val_main_v60 (F := Ideal) x0 x1 x3 x4 x5 x6) (ix4 B h n l) = (∑ d, (val_main_v57 (F := Ideal) x0 x1 x3 x4 x5 x6) (ix4 B h n d) * (val_main_v9 (F := Ideal) x1 x5 x6) (ix4 B h l d)) * Ideal.ofBits FTy.f32 0x3E000000#32 := by
  pointwise [val_main_v60, val_main_v59, val_main_v58, val_main_cst_2]
  exact eighth _

/-- The positions the reference selects are those picked by taking the greatest measure again and again. -/
theorem index_at (hf : ∀ B h l, measures (headsOf x0 x3 x4) (headsOf x1 x5 x6) B h l ≠ ⊥) (B : Fin 4) (h : Fin 16) (n : Fin 32) :
    (val_main_indices (F := Ideal) x0 x1 x3 x4 x5 x6) (ix3 B h n) = BitVec.ofNat 32 (picked (headsOf x0 x3 x4) (headsOf x1 x5 x6) B h n).val :=
  (top_positions (val_main_v55 (F := Ideal) x0 x1 x3 x4 x5 x6) B h n fun l => by rw [measure_at]; exact hf B h l).trans
    (congrArg (fun f => BitVec.ofNat 32 (Cert.Topk.pick f n.val).val) (funext fun l => measure_at x0 x1 x3 x4 x5 x6 B h l))

/-- The query rows taken are the selected queries. -/
theorem selected_at (hf : ∀ B h l, measures (headsOf x0 x3 x4) (headsOf x1 x5 x6) B h l ≠ ⊥) (B : Fin 4) (h : Fin 16) (n : Fin 32) (d : Fin 64) :
    (val_main_v57 (F := Ideal) x0 x1 x3 x4 x5 x6) (ix4 B h n d) = (headsOf x0 x3 x4) B h (picked (headsOf x0 x3 x4) (headsOf x1 x5 x6) B h n) d :=
  (gather_rows (val_main_v4 (F := Ideal) x0 x3 x4) (val_main_call0_v4 (F := Ideal) x0 x1 x3 x4 x5 x6) _ B h n d (taken_at x0 x1 x3 x4 x5 x6 _ B h n (index_at x0 x1 x3 x4 x5 x6 hf B h n))).trans
    (query_at x0 x3 x4 B h _ d)

/-- A selected query's scores. -/
theorem score_at (hf : ∀ B h l, measures (headsOf x0 x3 x4) (headsOf x1 x5 x6) B h l ≠ ⊥) (B : Fin 4) (h : Fin 16) (n : Fin 32) (l : Fin 2048) :
    (val_main_v60 (F := Ideal) x0 x1 x3 x4 x5 x6) (ix4 B h n l) = score (fun d => (headsOf x0 x3 x4) B h (picked (headsOf x0 x3 x4) (headsOf x1 x5 x6) B h n) d) (fun l d => (headsOf x1 x5 x6) B h l d) l :=
  (scaled_at x0 x1 x3 x4 x5 x6 B h n l).trans (congrArg (fun t : EReal => t * Ideal.ofBits FTy.f32 0x3E000000#32)
    (Finset.sum_congr rfl fun d _ => congrArg₂ (fun a b : EReal => a * b) (selected_at x0 x1 x3 x4 x5 x6 hf B h n d)
      (key_at x1 x5 x6 B h l d)))

/-- The softmax of a selected query's scores. -/
theorem softmax_at (hf : ∀ B h l, measures (headsOf x0 x3 x4) (headsOf x1 x5 x6) B h l ≠ ⊥) (B : Fin 4) (h : Fin 16) (n : Fin 32) (l : Fin 2048) :
    (val_main_v71 (F := Ideal) x0 x1 x3 x4 x5 x6) (ix4 B h n l) = softmax (score (fun d => (headsOf x0 x3 x4) B h (picked (headsOf x0 x3 x4) (headsOf x1 x5 x6) B h n) d) (fun l d => (headsOf x1 x5 x6) B h l d)) l := by
  have e : ∀ l, (val_main_v67 (F := Ideal) x0 x1 x3 x4 x5 x6) (ix4 B h n l) = Ideal.exp (score (fun d => (headsOf x0 x3 x4) B h (picked (headsOf x0 x3 x4) (headsOf x1 x5 x6) B h n) d) (fun l d => (headsOf x1 x5 x6) B h l d) l - Finset.univ.fold max ⊥ (score (fun d => (headsOf x0 x3 x4) B h (picked (headsOf x0 x3 x4) (headsOf x1 x5 x6) B h n) d) (fun l d => (headsOf x1 x5 x6) B h l d))) :=
    fun l => (weight_at x0 x1 x3 x4 x5 x6 B h n l).trans (congrArg Ideal.exp (congrArg₂ (fun a b : EReal => a - b)
      (score_at x0 x1 x3 x4 x5 x6 hf B h n l) ((top_score_at x0 x1 x3 x4 x5 x6 B h n).trans
        (congrArg (fun f => Finset.univ.fold max ⊥ f) (funext fun l => score_at x0 x1 x3 x4 x5 x6 hf B h n l)))))
  refine (share_at x0 x1 x3 x4 x5 x6 B h n l).trans ?_
  exact congrArg₂ Ideal.div (e l) (Finset.sum_congr rfl fun l' _ => e l')

/-- A selected query's attention over the values. -/
theorem context_at (hf : ∀ B h l, measures (headsOf x0 x3 x4) (headsOf x1 x5 x6) B h l ≠ ⊥) (B : Fin 4) (h : Fin 16) (n : Fin 32) (d : Fin 64) :
    (val_main_v72 (F := Ideal) x0 x1 x2 x3 x4 x5 x6 x7 x8) (ix4 B h n d) = context (fun d => (headsOf x0 x3 x4) B h (picked (headsOf x0 x3 x4) (headsOf x1 x5 x6) B h n) d) (fun l d => (headsOf x1 x5 x6) B h l d) (fun l d => (headsOf x2 x7 x8) B h l d) d := by
  pointwise [val_main_v72]
  exact Finset.sum_congr rfl fun l _ => congrArg₂ (fun a b : EReal => a * b) (softmax_at x0 x1 x3 x4 x5 x6 hf B h n l)
    (value_at x2 x7 x8 B h l d)

/-- The context of every position: the attention at the selected queries, the mean of the values elsewhere. -/
theorem ctx_at (hf : ∀ B h l, measures (headsOf x0 x3 x4) (headsOf x1 x5 x6) B h l ≠ ⊥) (B : Fin 4) (h : Fin 16) (l : Fin 2048) (d : Fin 64) :
    (val_main_v103 (F := Ideal) x0 x1 x2 x3 x4 x5 x6 x7 x8) (ix4 B h l d) = ctx (headsOf x0 x3 x4) (headsOf x1 x5 x6) (headsOf x2 x7 x8) B h l d := by
  refine (scatter_rows (val_main_v77 (F := Ideal) x2 x7 x8) (val_main_v102 (F := Ideal) x0 x1 x3 x4 x5 x6) (val_main_v72 (F := Ideal) x0 x1 x2 x3 x4 x5 x6 x7 x8) (picked (headsOf x0 x3 x4) (headsOf x1 x5 x6))
    (fun B h n => (column0_at x0 x1 x3 x4 x5 x6 B h n).trans (batch_at B h n))
    (fun B h n => (column1_at x0 x1 x3 x4 x5 x6 B h n).trans (head_at B h n))
    (fun B h n => (column2_at x0 x1 x3 x4 x5 x6 B h n).trans (position_at x0 x1 x3 x4 x5 x6 _ B h n (index_at x0 x1 x3 x4 x5 x6 hf B h n)))
    (fun B h l d => context (fun d => (headsOf x0 x3 x4) B h l d) (fun l d => (headsOf x1 x5 x6) B h l d) (fun l d => (headsOf x2 x7 x8) B h l d) d)
    (fun B h n d => context_at x0 x1 x2 x3 x4 x5 x6 x7 x8 hf B h n d) B h l d).trans ?_
  unfold ctx
  split
  · rfl
  · exact (total_mean_at x2 x7 x8 B h l d).trans (congrArg colMean (funext fun l' => value_at x2 x7 x8 B h l' d))

end Cert.ReferenceIdeal.Read

end
-- ==== Proof.RefTail.lean ====
/- The reference from the row handed to the feed-forward block to its result. -/
module

public import proofs.«01_k».proof.Proof.Gen.ReferenceIdeal.Read
public import proofs.«01_k».proof.Proof.Whole

@[expose] public section

set_option maxRecDepth 16384

noncomputable section

namespace Cert.ReferenceIdeal.Read

open Cert.ReferenceIdeal Cert.ReferenceIdeal.Gen Idealize.ShloMosaic Idealize.ShloMosaic.TcCoe Idealize.ShloMosaic.Tactic Cert.Spec

variable (x0 : (⟨S4x2048x1024, .f32⟩ : BufTy).Contents (Elt Ideal)) (x1 : (⟨S4x2048x1024, .f32⟩ : BufTy).Contents (Elt Ideal)) (x2 : (⟨S4x2048x1024, .f32⟩ : BufTy).Contents (Elt Ideal)) (x3 : (⟨S1024x16x64, .f32⟩ : BufTy).Contents (Elt Ideal)) (x4 : (⟨S16x64, .f32⟩ : BufTy).Contents (Elt Ideal)) (x5 : (⟨S1024x16x64, .f32⟩ : BufTy).Contents (Elt Ideal)) (x6 : (⟨S16x64, .f32⟩ : BufTy).Contents (Elt Ideal)) (x7 : (⟨S1024x16x64, .f32⟩ : BufTy).Contents (Elt Ideal)) (x8 : (⟨S16x64, .f32⟩ : BufTy).Contents (Elt Ideal)) (x9 : (⟨S16x64x1024, .f32⟩ : BufTy).Contents (Elt Ideal)) (x10 : (⟨S1024, .f32⟩ : BufTy).Contents (Elt Ideal)) (x11 : (⟨S1024, .f32⟩ : BufTy).Contents (Elt Ideal)) (x12 : (⟨S1024, .f32⟩ : BufTy).Contents (Elt Ideal)) (x13 : (⟨S1024x4096, .f32⟩ : BufTy).Contents (Elt Ideal)) (x14 : (⟨S4096, .f32⟩ : BufTy).Contents (Elt Ideal)) (x15 : (⟨S4096x1024, .f32⟩ : BufTy).Contents (Elt Ideal)) (x16 : (⟨S1024, .f32⟩ : BufTy).Contents (Elt Ideal)) (x17 : (⟨S1024, .f32⟩ : BufTy).Contents (Elt Ideal)) (x18 : (⟨S1024, .f32⟩ : BufTy).Contents (Elt Ideal))

/-- The first normalisation. -/
theorem norm1_at (B : Fin 4) (l : Fin 2048) (o : Fin 1024) :
    (val_main_v134 (F := Ideal) x0 x1 x2 x3 x4 x5 x6 x7 x8 x9 x10 x11 x12) (ix3 B l o) = norm (fun k => (val_main_v108 (F := Ideal) x0 x1 x2 x3 x4 x5 x6 x7 x8 x9 x10) (ix3 B l k)) (fun k => x11 (ix1 k)) (fun k => x12 (ix1 k)) o := by
  pointwise [val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_cst_13, val_main_cst_14, val_main_cst_15, val_main_cst_16, val_main_cst_17]
  rfl

/-- The hidden layer. -/
theorem hidden_at (B : Fin 4) (l : Fin 2048) (j : Fin 4096) :
    (val_main_v144 (F := Ideal) x0 x1 x2 x3 x4 x5 x6 x7 x8 x9 x10 x11 x12 x13 x14) (ix3 B l j) = hidden (fun k => (val_main_v134 (F := Ideal) x0 x1 x2 x3 x4 x5 x6 x7 x8 x9 x10 x11 x12) (ix3 B l k)) (fun k j => x13 (ix2 k j)) (fun j => x14 (ix1 j)) j := by
  pointwise [val_main_v144, val_main_v143, val_main_v142, val_main_v141, val_main_v140, val_main_v139, val_main_v138, val_main_v137, val_main_v136, val_main_v135, val_main_cst_18, val_main_cst_19]
  rfl

/-- The feed-forward block's output added to its input. -/
theorem residual_at (B : Fin 4) (l : Fin 2048) (o : Fin 1024) :
    (val_main_v149 (F := Ideal) x0 x1 x2 x3 x4 x5 x6 x7 x8 x9 x10 x11 x12 x13 x14 x15 x16) (ix3 B l o) = (val_main_v134 (F := Ideal) x0 x1 x2 x3 x4 x5 x6 x7 x8 x9 x10 x11 x12) (ix3 B l o) + (∑ j, (val_main_v144 (F := Ideal) x0 x1 x2 x3 x4 x5 x6 x7 x8 x9 x10 x11 x12 x13 x14) (ix3 B l j) * x15 (ix2 j o) + x16 (ix1 o)) := by
  pointwise [val_main_v149, val_main_v148, val_main_v147, val_main_v146, val_main_v145]

/-- The second normalisation. -/
theorem norm2_at (B : Fin 4) (l : Fin 2048) (o : Fin 1024) :
    (val_main_v175 (F := Ideal) x0 x1 x2 x3 x4 x5 x6 x7 x8 x9 x10 x11 x12 x13 x14 x15 x16 x17 x18) (ix3 B l o) = norm (fun k => (val_main_v149 (F := Ideal) x0 x1 x2 x3 x4 x5 x6 x7 x8 x9 x10 x11 x12 x13 x14 x15 x16) (ix3 B l k)) (fun k => x17 (ix1 k)) (fun k => x18 (ix1 k)) o := by
  pointwise [val_main_v175, val_main_v174, val_main_v173, val_main_v172, val_main_v171, val_main_v170, val_main_v169, val_main_v168, val_main_v167, val_main_v166, val_main_v165, val_main_v164, val_main_v163, val_main_v162, val_main_v161, val_main_v160, val_main_v159, val_main_v158, val_main_v157, val_main_v156, val_main_v155, val_main_v154, val_main_v153, val_main_v152, val_main_v151, val_main_v150, val_main_cst_20, val_main_cst_21, val_main_cst_22, val_main_cst_23, val_main_cst_24]
  rfl

/-- The result from the row. -/
theorem tail_at (B : Fin 4) (l : Fin 2048) (o : Fin 1024) :
    (val_main_v175 (F := Ideal) x0 x1 x2 x3 x4 x5 x6 x7 x8 x9 x10 x11 x12 x13 x14 x15 x16 x17 x18) (ix3 B l o) = ffnRow (fun k => (val_main_v108 (F := Ideal) x0 x1 x2 x3 x4 x5 x6 x7 x8 x9 x10) (ix3 B l k)) (fun k => x11 (ix1 k)) (fun k => x12 (ix1 k)) (fun k j => x13 (ix2 k j))
      (fun j => x14 (ix1 j)) (fun j k => x15 (ix2 j k)) (fun k => x16 (ix1 k)) (fun k => x17 (ix1 k)) (fun k => x18 (ix1 k)) o := by
  rw [norm2_at]
  unfold ffnRow
  refine congrArg (fun f => norm f _ _ o) (funext fun p => ?_)
  rw [residual_at]
  simp only [hidden_at]
  rw [show (fun k => (val_main_v134 (F := Ideal) x0 x1 x2 x3 x4 x5 x6 x7 x8 x9 x10 x11 x12) (ix3 B l k)) = norm (fun k => (val_main_v108 (F := Ideal) x0 x1 x2 x3 x4 x5 x6 x7 x8 x9 x10) (ix3 B l k)) (fun k => x11 (ix1 k)) (fun k => x12 (ix1 k)) from
    funext fun k => norm1_at _ _ _ _ _ _ _ _ _ _ _ _ _ B l k, norm1_at]

end Cert.ReferenceIdeal.Read

end
-- ==== Proof.RefValue.lean ====
/- The reference's result at an entry. -/
module

public import proofs.«01_k».proof.Proof.Gen.ReferenceIdeal.Read
public import proofs.«01_k».proof.Proof.Whole
public import proofs.«01_k».proof.Proof.RefAttn
public import proofs.«01_k».proof.Proof.RefTail

@[expose] public section

set_option maxRecDepth 16384

noncomputable section

namespace Cert.ReferenceIdeal.Read

open Cert.ReferenceIdeal Cert.ReferenceIdeal.Gen Idealize.ShloMosaic Idealize.ShloMosaic.TcCoe Idealize.ShloMosaic.Tactic Cert.Spec

variable (x0 : (⟨S4x2048x1024, .f32⟩ : BufTy).Contents (Elt Ideal)) (x1 : (⟨S4x2048x1024, .f32⟩ : BufTy).Contents (Elt Ideal)) (x2 : (⟨S4x2048x1024, .f32⟩ : BufTy).Contents (Elt Ideal)) (x3 : (⟨S1024x16x64, .f32⟩ : BufTy).Contents (Elt Ideal)) (x4 : (⟨S16x64, .f32⟩ : BufTy).Contents (Elt Ideal)) (x5 : (⟨S1024x16x64, .f32⟩ : BufTy).Contents (Elt Ideal)) (x6 : (⟨S16x64, .f32⟩ : BufTy).Contents (Elt Ideal)) (x7 : (⟨S1024x16x64, .f32⟩ : BufTy).Contents (Elt Ideal)) (x8 : (⟨S16x64, .f32⟩ : BufTy).Contents (Elt Ideal)) (x9 : (⟨S16x64x1024, .f32⟩ : BufTy).Contents (Elt Ideal)) (x10 : (⟨S1024, .f32⟩ : BufTy).Contents (Elt Ideal)) (x11 : (⟨S1024, .f32⟩ : BufTy).Contents (Elt Ideal)) (x12 : (⟨S1024, .f32⟩ : BufTy).Contents (Elt Ideal)) (x13 : (⟨S1024x4096, .f32⟩ : BufTy).Contents (Elt Ideal)) (x14 : (⟨S4096, .f32⟩ : BufTy).Contents (Elt Ideal)) (x15 : (⟨S4096x1024, .f32⟩ : BufTy).Contents (Elt Ideal)) (x16 : (⟨S1024, .f32⟩ : BufTy).Contents (Elt Ideal)) (x17 : (⟨S1024, .f32⟩ : BufTy).Contents (Elt Ideal)) (x18 : (⟨S1024, .f32⟩ : BufTy).Contents (Elt Ideal))

/-- The row handed to the feed-forward block, from the projected context. -/
theorem row_at (B : Fin 4) (l : Fin 2048) (o : Fin 1024) :
    (val_main_v108 (F := Ideal) x0 x1 x2 x3 x4 x5 x6 x7 x8 x9 x10) (ix3 B l o) = x0 (ix3 B l o) + ((val_main_v104 (F := Ideal) x0 x1 x2 x3 x4 x5 x6 x7 x8 x9) (ix3 B l o) + x10 (ix1 o)) := by
  refine (val_main_v108_apply (F := Ideal) x0 x1 x2 x3 x4 x5 x6 x7 x8 x9 x10 _).trans ?_
  refine congrArg (fun t : EReal => x0 (ix3 B l o) + t) ?_
  refine (val_main_v107_apply (F := Ideal) x0 x1 x2 x3 x4 x5 x6 x7 x8 x9 x10 _).trans ?_
  refine congrArg (fun t : EReal => (val_main_v104 (F := Ideal) x0 x1 x2 x3 x4 x5 x6 x7 x8 x9) (ix3 B l o) + t) ?_
  refine (val_main_v106_apply (F := Ideal) x10 _).trans ?_
  refine (val_main_v105_apply (F := Ideal) x10 _).trans ?_
  exact congrArg x10 (funext fun a => by fin_cases a; rfl)

/-- The row handed to the feed-forward block. -/
theorem attn_row_at (hf : ∀ B h l, measures (headsOf x0 x3 x4) (headsOf x1 x5 x6) B h l ≠ ⊥) (B : Fin 4) (l : Fin 2048) (o : Fin 1024) :
    (val_main_v108 (F := Ideal) x0 x1 x2 x3 x4 x5 x6 x7 x8 x9 x10) (ix3 B l o) = attnRow (fun B l k => x0 (ix3 B l k)) (headsOf x0 x3 x4) (headsOf x1 x5 x6) (headsOf x2 x7 x8) (fun h d o => x9 (ix3 h d o))
      (fun o => x10 (ix1 o)) B l o := by
  refine (row_at x0 x1 x2 x3 x4 x5 x6 x7 x8 x9 x10 B l o).trans ?_
  refine congrArg (fun t : EReal => x0 (ix3 B l o) + (t + x10 (ix1 o))) ?_
  refine (contract_heads (val_main_v103 (F := Ideal) x0 x1 x2 x3 x4 x5 x6 x7 x8) x9 B l o).trans ?_
  exact Finset.sum_congr rfl fun h _ => Finset.sum_congr rfl fun d _ =>
    congrArg (fun t : EReal => t * x9 (ix3 h d o)) (ctx_at x0 x1 x2 x3 x4 x5 x6 x7 x8 hf B h l d)

/-- The reference's result at an entry, where no measure is minus infinity. -/
theorem result_at (hf : ∀ B h l, measures (headsOf x0 x3 x4) (headsOf x1 x5 x6) B h l ≠ ⊥) (B : Fin 4) (l : Fin 2048) (o : Fin 1024) :
    (val_main_v175 (F := Ideal) x0 x1 x2 x3 x4 x5 x6 x7 x8 x9 x10 x11 x12 x13 x14 x15 x16 x17 x18) (ix3 B l o) = block attnRow x0 x1 x2 x3 x4 x5 x6 x7 x8 x9 x10 x11 x12 x13 x14 x15 x16 x17 x18 B l o :=
  (tail_at x0 x1 x2 x3 x4 x5 x6 x7 x8 x9 x10 x11 x12 x13 x14 x15 x16 x17 x18 B l o).trans (congrArg (fun r => ffnRow r (fun k => x11 (ix1 k)) (fun k => x12 (ix1 k))
    (fun k j => x13 (ix2 k j)) (fun j => x14 (ix1 j)) (fun j k => x15 (ix2 j k)) (fun k => x16 (ix1 k))
    (fun k => x17 (ix1 k)) (fun k => x18 (ix1 k)) o) (funext fun k => attn_row_at x0 x1 x2 x3 x4 x5 x6 x7 x8 x9 x10 hf B l k))

end Cert.ReferenceIdeal.Read

end
-- ==== Proof.Real.lean ====
/- Entries that are real numbers: sums, products and quotients of them, the softmax of real scores, and what follows for
   the heads, the measures and the context of a block whose arguments are real. -/
module

public import proofs.«01_k».proof.Proof.Whole

@[expose] public section

noncomputable section

namespace Cert.Spec

open Idealize.ShloMosaic

/-- An extended real that is a real number. -/
def IsReal (x : EReal) : Prop := ∃ r : ℝ, x = (r : EReal)

/-- The sum of two reals is a real. -/
theorem IsReal.add {x y : EReal} : IsReal x → IsReal y → IsReal (x + y) := by
  rintro ⟨a, rfl⟩ ⟨b, rfl⟩
  exact ⟨a + b, (EReal.coe_add a b).symm⟩

/-- The difference of two reals is a real. -/
theorem IsReal.sub {x y : EReal} : IsReal x → IsReal y → IsReal (x - y) := by
  rintro ⟨a, rfl⟩ ⟨b, rfl⟩
  exact ⟨a - b, (EReal.coe_sub a b).symm⟩

/-- The product of two reals is a real. -/
theorem IsReal.mul {x y : EReal} : IsReal x → IsReal y → IsReal (x * y) := by
  rintro ⟨a, rfl⟩ ⟨b, rfl⟩
  exact ⟨a * b, (EReal.coe_mul a b).symm⟩

/-- A finite sum of reals, as a real. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of reals is a real. -/
theorem IsReal.sum {ι : Type} [Fintype ι] {f : ι → EReal} (h : ∀ i, IsReal (f i)) : IsReal (∑ i, f i) := by
  choose g hg using h
  exact ⟨∑ i, g i, by rw [← coe_sum]; exact Finset.sum_congr rfl fun i _ => hg i⟩

/-- What is not a real number is an infinity. -/
theorem not_isReal {x : EReal} : ¬ IsReal x ↔ x = ⊥ ∨ x = ⊤ := by
  constructor
  · intro h
    induction x using EReal.rec with
    | bot => exact Or.inl rfl
    | coe r => exact absurd ⟨r, rfl⟩ h
    | top => exact Or.inr rfl
  · rintro (rfl | rfl) ⟨r, h⟩
    · exact EReal.coe_ne_bot r h.symm
    · exact EReal.coe_ne_top r h.symm

/-- A sum of two is real exactly where both are. -/
theorem isReal_add {x y : EReal} : IsReal (x + y) ↔ IsReal x ∧ IsReal y := by
  refine ⟨fun h => ?_, fun h => h.1.add h.2⟩
  by_contra hc
  refine not_isReal.2 ?_ h
  rcases not_and_or.1 hc with hx | hy
  · rcases not_isReal.1 hx with rfl | rfl
    · exact Or.inl (EReal.bot_add y)
    · induction y using EReal.rec with
      | bot => exact Or.inl rfl
      | coe r => exact Or.inr rfl
      | top => exact Or.inr rfl
  · rcases not_isReal.1 hy with rfl | rfl
    · exact Or.inl (EReal.add_bot x)
    · induction x using EReal.rec with
      | bot => exact Or.inl rfl
      | coe r => exact Or.inr rfl
      | top => exact Or.inr rfl

/-- A finite sum is real exactly where all its terms are. -/
theorem isReal_sum {ι : Type} [Fintype ι] {f : ι → EReal} : IsReal (∑ i, f i) ↔ ∀ i, IsReal (f i) := by
  classical
  refine ⟨fun h i => ?_, IsReal.sum⟩
  rw [← Finset.add_sum_erase _ f (Finset.mem_univ i)] at h
  exact (isReal_add.1 h).1

/-- A product with a real that is not zero is real exactly where the other factor is. -/
theorem isReal_coe_mul {r : ℝ} (hr : r ≠ 0) {x : EReal} : IsReal ((r : EReal) * x) ↔ IsReal x := by
  refine ⟨fun h => ?_, fun h => IsReal.mul ⟨r, rfl⟩ h⟩
  by_contra hx
  refine not_isReal.2 ?_ h
  rcases lt_or_gt_of_ne hr with h0 | h0 <;> rcases not_isReal.1 hx with rfl | rfl
  · exact Or.inr (EReal.coe_mul_bot_of_neg h0)
  · exact Or.inl (EReal.coe_mul_top_of_neg h0)
  · exact Or.inl (EReal.coe_mul_bot_of_pos h0)
  · exact Or.inr (EReal.coe_mul_top_of_pos h0)

/-- A real divided by a real that is not zero. -/
theorem IsReal.div {x : EReal} {r : ℝ} (hx : IsReal x) (hr : r ≠ 0) : IsReal (Ideal.div x (r : EReal)) := by
  obtain ⟨a, rfl⟩ := hx
  unfold Ideal.div
  rw [if_neg (by exact_mod_cast hr), ← EReal.coe_inv, ← EReal.coe_mul]
  exact ⟨_, rfl⟩

/-- A real is not minus infinity. -/
theorem IsReal.ne_bot {x : EReal} : IsReal x → x ≠ ⊥ := by
  rintro ⟨a, rfl⟩
  exact EReal.coe_ne_bot a

/-- The largest of finitely many reals. -/
theorem IsReal.fold_max {n : ℕ} [NeZero n] {f : Fin n → EReal} (h : ∀ i, IsReal (f i)) :
    IsReal (Finset.univ.fold max ⊥ f) := by
  have h1 : Finset.univ.fold max ⊥ f < ⊤ := (Finset.fold_max_lt _).2 ⟨bot_lt_top, fun i _ => by
    obtain ⟨r, hr⟩ := h i
    rw [hr]
    exact EReal.coe_lt_top r⟩
  have h2 : f 0 ≤ Finset.univ.fold max ⊥ f := (Finset.le_fold_max _).2 (Or.inr ⟨0, Finset.mem_univ _, le_rfl⟩)
  have h3 : Finset.univ.fold max ⊥ f ≠ ⊥ := fun e => (h 0).ne_bot (le_bot_iff.1 (e ▸ h2))
  exact ⟨_, (EReal.coe_toReal h1.ne h3).symm⟩

/-- The mean of a column is real exactly where the column is. -/
theorem isReal_colMean {v : Fin 2048 → EReal} : IsReal (colMean v) ↔ ∀ l, IsReal (v l) := by
  have e : Ideal.ofBits FTy.f32 0x45000000#32 = ((2048 : ℝ) : EReal) := by
    simp [Ideal.ofBits, Ideal.ieee, -EReal.coe_mul]
    norm_num
  unfold Cert.Spec.colMean Ideal.div
  rw [e, if_neg (by norm_num), ← EReal.coe_inv, mul_comm, isReal_coe_mul (by norm_num), isReal_sum]

/-- A projection of reals. -/
theorem IsReal.proj {x w : Fin 1024 → EReal} {b : EReal} (hx : ∀ k, IsReal (x k)) (hw : ∀ k, IsReal (w k)) (hb : IsReal b) :
    IsReal (proj x w b) :=
  (IsReal.sum fun k => (hx k).mul (hw k)).add hb

/-- The measure of real queries and keys. -/
theorem IsReal.measure {ks : Fin 32 → Fin 64 → EReal} {q : Fin 64 → EReal} (hk : ∀ n d, IsReal (ks n d)) (hq : ∀ d, IsReal (q d)) :
    IsReal (measure ks q) := by
  have e : Ideal.ofBits FTy.f32 0x42000000#32 = ((32 : ℝ) : EReal) := by
    simp [Ideal.ofBits, Ideal.ieee, -EReal.coe_mul]
    norm_num
  have hp : ∀ n, IsReal (∑ d, ks n d * q d) := fun n => IsReal.sum fun d => (hk n d).mul (hq d)
  unfold Cert.Spec.measure
  rw [e]
  exact (IsReal.fold_max hp).sub ((IsReal.sum hp).div (by norm_num))

/-- The scores of real queries and keys. -/
theorem IsReal.score {q : Fin 64 → EReal} {k : Fin 2048 → Fin 64 → EReal} (hq : ∀ d, IsReal (q d)) (hk : ∀ l d, IsReal (k l d))
    (l : Fin 2048) : IsReal (score q k l) := by
  have e : Ideal.ofBits FTy.f32 0x3E000000#32 = ((8⁻¹ : ℝ) : EReal) := by
    simp [Ideal.ofBits, Ideal.ieee, -EReal.coe_mul]
    norm_num
  unfold Cert.Spec.score
  rw [e]
  exact (IsReal.sum fun d => (hq d).mul (hk l d)).mul ⟨_, rfl⟩

/-- The softmax of real scores is a positive real: the sum it divides by is positive. -/
theorem softmax_pos {s : Fin 2048 → EReal} (h : ∀ l, IsReal (s l)) (l : Fin 2048) : ∃ r : ℝ, 0 < r ∧ softmax s l = (r : EReal) := by
  have hd : ∀ l, IsReal (s l - Finset.univ.fold max ⊥ s) := fun l => (h l).sub (IsReal.fold_max h)
  choose g hg using hd
  have he : ∀ l, Ideal.exp (s l - Finset.univ.fold max ⊥ s) = ((Real.exp (g l) : ℝ) : EReal) := fun l => by
    rw [hg l]
    rfl
  have hs : ∑ l', Ideal.exp (s l' - Finset.univ.fold max ⊥ s) = ((∑ l', Real.exp (g l') : ℝ) : EReal) := by
    rw [← coe_sum]
    exact Finset.sum_congr rfl fun l' _ => he l'
  have hp : 0 < ∑ l', Real.exp (g l') := Finset.sum_pos (fun l' _ => Real.exp_pos _) ⟨0, Finset.mem_univ _⟩
  refine ⟨Real.exp (g l) * (∑ l', Real.exp (g l'))⁻¹, mul_pos (Real.exp_pos _) (inv_pos.2 hp), ?_⟩
  unfold Cert.Spec.softmax Ideal.div
  rw [hs, he l, if_neg (by exact_mod_cast hp.ne'), ← EReal.coe_inv, ← EReal.coe_mul]

/-- An entry of the context of real queries and keys is real exactly where its column of values is. -/
theorem isReal_context {q : Fin 64 → EReal} {k v : Fin 2048 → Fin 64 → EReal} (hq : ∀ d, IsReal (q d)) (hk : ∀ l d, IsReal (k l d))
    (d : Fin 64) : IsReal (context q k v d) ↔ ∀ l, IsReal (v l d) := by
  refine isReal_sum.trans (forall_congr' fun l => ?_)
  obtain ⟨r, hr, e⟩ := softmax_pos (IsReal.score hq hk) l
  rw [e]
  exact isReal_coe_mul hr.ne'

/-- The heads of real rows under a real projection. -/
theorem IsReal.headsOf {x : (⟨3, ![4, 2048, 1024]⟩ : Shape).Idx → EReal} {w : (⟨3, ![1024, 16, 64]⟩ : Shape).Idx → EReal}
    {b : (⟨2, ![16, 64]⟩ : Shape).Idx → EReal} (hx : ∀ i, IsReal (x i)) (hw : ∀ i, IsReal (w i)) (hb : ∀ i, IsReal (b i))
    (B : Fin 4) (h : Fin 16) (l : Fin 2048) (d : Fin 64) : IsReal (headsOf x w b B h l d) :=
  IsReal.proj (fun _ => hx _) (fun _ => hw _) (hb _)

end Cert.Spec

end
-- ==== Proof.Infinite.lean ====
/- Normalising a row that holds an infinity: every entry comes to the shift. -/
module

public import proofs.«01_k».proof.Proof.Real

@[expose] public section

noncomputable section

namespace Cert.Spec

open Idealize.ShloMosaic

/-- The mean of a row is real exactly where the row is. -/
theorem isReal_mean {x : Fin 1024 → EReal} : IsReal (mean x) ↔ ∀ k, IsReal (x k) := by
  have e : Ideal.ofBits FTy.f32 1149239296#32 = ((1024 : ℝ) : EReal) := by
    simp [Ideal.ofBits, Ideal.ieee, -EReal.coe_mul]
    norm_num
  unfold Cert.Spec.mean Ideal.div
  rw [e, if_neg (by norm_num), ← EReal.coe_inv, mul_comm, isReal_coe_mul (by norm_num), isReal_sum]

/-- The square of an infinity is plus infinity. -/
theorem mul_self_of_not_isReal {x : EReal} (h : ¬ IsReal x) : x * x = ⊤ := by
  rcases not_isReal.1 h with rfl | rfl
  · exact EReal.bot_mul_bot
  · exact EReal.top_mul_top

/-- Subtracting an infinity leaves an infinity. -/
theorem not_isReal_sub {x y : EReal} (h : ¬ IsReal y) : ¬ IsReal (x - y) := by
  rw [sub_eq_add_neg, isReal_add]
  refine fun hc => h ?_
  obtain ⟨r, hr⟩ := hc.2
  exact ⟨-r, by rw [EReal.coe_neg, ← hr, neg_neg]⟩

/-- The mean of a row of plus infinities is plus infinity. -/
theorem mean_top : mean (fun _ => ⊤) = ⊤ := by
  have e : Ideal.ofBits FTy.f32 1149239296#32 = ((1024 : ℝ) : EReal) := by
    simp [Ideal.ofBits, Ideal.ieee, -EReal.coe_mul]
    norm_num
  have hs : ∑ _k : Fin 1024, (⊤ : EReal) = ⊤ := by
    have hb : ∀ s : Finset (Fin 1024), ∑ _k ∈ s, (⊤ : EReal) ≠ ⊥ := fun s => by
      classical
      induction s using Finset.induction_on with
      | empty => simp
      | insert a s ha ih => rw [Finset.sum_insert ha, EReal.top_add_of_ne_bot ih]; exact top_ne_bot
    classical
    rw [← Finset.add_sum_erase _ _ (Finset.mem_univ (0 : Fin 1024)), EReal.top_add_of_ne_bot (hb _)]
  unfold Cert.Spec.mean Ideal.div
  rw [hs, e, if_neg (by norm_num), ← EReal.coe_inv, EReal.top_mul_coe_of_pos (by norm_num)]

/-- A row that holds an infinity normalises to the shift (plus zero times the scale). -/
theorem norm_infinite (x g b : Fin 1024 → EReal) (k : Fin 1024) (hk : ¬ IsReal (x k)) (o : Fin 1024) : norm x g b o = 0 * g o + b o := by
  have hm : ¬ IsReal (mean x) := fun h => hk (isReal_mean.1 h k)
  have he : (fun k => (x k - mean x) * (x k - mean x)) = fun _ => (⊤ : EReal) :=
    funext fun j => mul_self_of_not_isReal (not_isReal_sub hm)
  have hl : Ideal.ofBits FTy.f32 981668463#32 ≠ ⊥ := by
    simp [Ideal.ofBits, Ideal.ieee, -EReal.coe_mul]
  unfold norm
  rw [he, mean_top, EReal.top_add_of_ne_bot hl]
  show Ideal.div (x o - mean x) ⊤ * g o + b o = _
  unfold Ideal.div
  rw [if_neg EReal.top_ne_zero, EReal.inv_top, mul_zero]

/-- Two rows normalise to the same where their entries are pairwise the same, or infinities in both. -/
theorem norm_congr (x y g b : Fin 1024 → EReal) (h : ∀ p, x p = y p ∨ (¬ IsReal (x p) ∧ ¬ IsReal (y p))) : norm x g b = norm y g b := by
  by_cases hc : ∃ p, ¬ IsReal (x p) ∧ ¬ IsReal (y p)
  · obtain ⟨p, hx, hy⟩ := hc
    funext o
    rw [norm_infinite x g b p hx, norm_infinite y g b p hy]
  · rw [show x = y from funext fun p => (h p).resolve_right fun hp => hc ⟨p, hp⟩]

end Cert.Spec

end
-- ==== Proof.Equation.lean ====
/- The kernel's way of forming the row handed to the feed-forward block — the mean's projection everywhere, plus a
   correction at the selected queries — against projecting the context. Where queries, keys and the output projection
   are real, each entry of the two rows is either the same or an infinity in both. A row that holds an infinity
   normalises to the shift alone, so the block comes to the same either way, whatever the values are. -/
module

public import proofs.«01_k».proof.Proof.Infinite

@[expose] public section

noncomputable section

namespace Cert.Spec

open Idealize.ShloMosaic

/-- The corrections and the mean's products add up to the context's products, where every weight is real and those
    that are not zero meet real entries. -/
theorem correction_add {ι : Type} [Fintype ι] (c m w : ι → EReal) (hw : ∀ d, IsReal (w d))
    (hcm : ∀ d, w d = 0 ∨ (IsReal (c d) ∧ IsReal (m d))) :
    (∑ d, (c d - m d) * w d) + ∑ d, m d * w d = ∑ d, c d * w d := by
  rw [← Finset.sum_add_distrib]
  refine Finset.sum_congr rfl fun d _ => ?_
  rcases hcm d with h0 | ⟨⟨c', ec⟩, ⟨m', em⟩⟩
  · rw [h0, mul_zero, mul_zero, mul_zero, add_zero]
  · obtain ⟨w', ew⟩ := hw d
    rw [ec, em, ew, ← EReal.coe_sub, ← EReal.coe_mul, ← EReal.coe_mul, ← EReal.coe_mul, ← EReal.coe_add]
    congr 1
    ring

variable (q k v : Fin 4 → Fin 16 → Fin 2048 → Fin 64 → EReal) (wo : Fin 16 → Fin 64 → Fin 1024 → EReal)

/-- One head's correction at a position: there is one exactly where the position was selected. Columns of values that
    are not real are allowed where their weight is zero. -/
theorem head_row (hq : ∀ B h l d, IsReal (q B h l d)) (hk : ∀ B h l d, IsReal (k B h l d)) (hw : ∀ h d o, IsReal (wo h d o)) (B : Fin 4) (h : Fin 16) (l : Fin 2048) (o : Fin 1024)
    (hv : ∀ d, wo h d o = 0 ∨ ∀ l, IsReal (v B h l d)) :
    (∑ n, (if l = picked q k B h n then (1 : EReal) else 0)
        * ∑ d, (context (fun d => q B h (picked q k B h n) d) (fun l d => k B h l d) (fun l d => v B h l d) d
            - colMean fun l' => v B h l' d) * wo h d o)
      + ∑ d, (colMean fun l' => v B h l' d) * wo h d o
      = ∑ d, ctx q k v B h l d * wo h d o := by
  by_cases hn : ∃ n, picked q k B h n = l
  · obtain ⟨n, rfl⟩ := hn
    rw [Finset.sum_eq_single n]
    · rw [if_pos rfl, one_mul]
      refine (correction_add _ _ _ (fun d => hw h d o) fun d => (hv d).imp id fun hr =>
        ⟨(isReal_context (fun d => hq B h _ d) (fun l d => hk B h l d) d).2 hr, isReal_colMean.2 hr⟩).trans ?_
      refine Finset.sum_congr rfl fun d _ => congrArg (fun t : EReal => t * wo h d o) ?_
      unfold ctx
      rw [if_pos ⟨n, rfl⟩]
    · intro n' _ hne
      rw [if_neg, zero_mul]
      intro e
      refine hne (Fin.ext ?_)
      exact (Cert.Topk.pick_injective (f := fun l => measures q k B h l)
        (fun l => (IsReal.measure (fun n d => hk B h (sample n) d) fun d => hq B h l d).ne_bot)
        (by have := n.isLt; omega) (by have := n'.isLt; omega) e).symm
    · exact fun hmem => absurd (Finset.mem_univ n) hmem
  · rw [Finset.sum_eq_zero fun n _ => by rw [if_neg fun e => hn ⟨n, e.symm⟩, zero_mul], zero_add]
    refine Finset.sum_congr rfl fun d _ => congrArg (fun t : EReal => t * wo h d o) ?_
    unfold ctx
    rw [if_neg hn]

/-- An entry of the context at any position is real exactly where its column of values is. -/
theorem isReal_ctx (hq : ∀ B h l d, IsReal (q B h l d)) (hk : ∀ B h l d, IsReal (k B h l d)) (B : Fin 4) (h : Fin 16) (l : Fin 2048)
    (d : Fin 64) : IsReal (ctx q k v B h l d) ↔ ∀ l, IsReal (v B h l d) := by
  unfold ctx
  split
  · exact isReal_context (fun d => hq B h l d) (fun l d => hk B h l d) d
  · exact isReal_colMean

/-- An entry of the two rows is the same, or an infinity in both. -/
theorem corrRow_eq (x : Fin 4 → Fin 2048 → Fin 1024 → EReal) (bo : Fin 1024 → EReal)
    (hq : ∀ B h l d, IsReal (q B h l d)) (hk : ∀ B h l d, IsReal (k B h l d)) (hw : ∀ h d o, IsReal (wo h d o))
    (B : Fin 4) (l : Fin 2048) (o : Fin 1024) :
    corrRow x q k v wo bo B l o = attnRow x q k v wo bo B l o
      ∨ (¬ IsReal (corrRow x q k v wo bo B l o) ∧ ¬ IsReal (attnRow x q k v wo bo B l o)) := by
  by_cases hv : ∀ h d, wo h d o = 0 ∨ ∀ l, IsReal (v B h l d)
  · left
    unfold corrRow attnRow
    rw [add_assoc, ← add_assoc (∑ h, _) (∑ h, _) (bo o), ← Finset.sum_add_distrib]
    refine congrArg (fun t : EReal => x B l o + (t + bo o)) ?_
    exact Finset.sum_congr rfl fun h _ => head_row q k v wo hq hk hw B h l o (hv h)
  · right
    push Not at hv
    obtain ⟨h, d, hne, hv⟩ := hv
    obtain ⟨l', hl'⟩ := hv
    obtain ⟨r, er⟩ := hw h d o
    have hr : r ≠ 0 := fun e => hne (by rw [er, e]; rfl)
    constructor
    · intro hc
      have h1 := isReal_sum.1 (isReal_sum.1 (isReal_add.1 (isReal_add.1 hc).2).1 h) d
      rw [er, mul_comm] at h1
      exact hl' (isReal_colMean.1 ((isReal_coe_mul hr).1 h1) l')
    · intro hc
      have h1 := isReal_sum.1 (isReal_sum.1 (isReal_add.1 (isReal_add.1 hc).2).1 h) d
      rw [er, mul_comm] at h1
      exact hl' ((isReal_ctx q k v hq hk B h l d).1 ((isReal_coe_mul hr).1 h1) l')

/-- The whole block comes to the same either way, where the arguments that form queries and keys, and the
    output projection, are real. -/
theorem block_eq (a0 a1 a2 : (⟨3, ![4, 2048, 1024]⟩ : Shape).Idx → EReal) (a3 : (⟨3, ![1024, 16, 64]⟩ : Shape).Idx → EReal)
    (a4 : (⟨2, ![16, 64]⟩ : Shape).Idx → EReal) (a5 : (⟨3, ![1024, 16, 64]⟩ : Shape).Idx → EReal)
    (a6 : (⟨2, ![16, 64]⟩ : Shape).Idx → EReal) (a7 : (⟨3, ![1024, 16, 64]⟩ : Shape).Idx → EReal)
    (a8 : (⟨2, ![16, 64]⟩ : Shape).Idx → EReal) (a9 : (⟨3, ![16, 64, 1024]⟩ : Shape).Idx → EReal)
    (a10 a11 a12 : (⟨1, ![1024]⟩ : Shape).Idx → EReal) (a13 : (⟨2, ![1024, 4096]⟩ : Shape).Idx → EReal)
    (a14 : (⟨1, ![4096]⟩ : Shape).Idx → EReal) (a15 : (⟨2, ![4096, 1024]⟩ : Shape).Idx → EReal)
    (a16 a17 a18 : (⟨1, ![1024]⟩ : Shape).Idx → EReal)
    (h0 : ∀ i, IsReal (a0 i)) (h1 : ∀ i, IsReal (a1 i)) (h3 : ∀ i, IsReal (a3 i)) (h4 : ∀ i, IsReal (a4 i))
    (h5 : ∀ i, IsReal (a5 i)) (h6 : ∀ i, IsReal (a6 i)) (h9 : ∀ i, IsReal (a9 i))
    (B : Fin 4) (l : Fin 2048) (o : Fin 1024) :
    block corrRow a0 a1 a2 a3 a4 a5 a6 a7 a8 a9 a10 a11 a12 a13 a14 a15 a16 a17 a18 B l o
      = block attnRow a0 a1 a2 a3 a4 a5 a6 a7 a8 a9 a10 a11 a12 a13 a14 a15 a16 a17 a18 B l o := by
  unfold block ffnRow
  rw [norm_congr _ _ _ _ fun p => corrRow_eq (headsOf a0 a3 a4) (headsOf a1 a5 a6) (headsOf a2 a7 a8) (fun h d o => a9 (ix3 h d o)) _ _
    (IsReal.headsOf h0 h3 h4) (IsReal.headsOf h1 h5 h6) (fun _ _ _ => h9 _) B l p]

/-- No measure is minus infinity where queries and keys are real. -/
theorem measures_ne_bot (hq : ∀ B h l d, IsReal (q B h l d)) (hk : ∀ B h l d, IsReal (k B h l d)) (B : Fin 4) (h : Fin 16) (l : Fin 2048) :
    measures q k B h l ≠ ⊥ :=
  (IsReal.measure (fun n d => hk B h (sample n) d) fun d => hq B h l d).ne_bot

end Cert.Spec

end
-- ==== Proof.Meet.lean ====
/- The reference's result is the kernel's way of computing the block, where what forms the queries and the keys is real, and so is the output projection. -/
module

public import proofs.«01_k».proof.Proof.Gen.ReferenceIdeal.Read
public import proofs.«01_k».proof.Proof.Whole
public import proofs.«01_k».proof.Proof.RefValue
public import proofs.«01_k».proof.Proof.Equation

@[expose] public section

set_option maxRecDepth 16384

noncomputable section

namespace Cert.ReferenceIdeal.Read

open Cert.ReferenceIdeal Cert.ReferenceIdeal.Gen Idealize.ShloMosaic Idealize.ShloMosaic.TcCoe Idealize.ShloMosaic.Tactic Cert.Spec

variable (x0 : (⟨S4x2048x1024, .f32⟩ : BufTy).Contents (Elt Ideal)) (x1 : (⟨S4x2048x1024, .f32⟩ : BufTy).Contents (Elt Ideal)) (x2 : (⟨S4x2048x1024, .f32⟩ : BufTy).Contents (Elt Ideal)) (x3 : (⟨S1024x16x64, .f32⟩ : BufTy).Contents (Elt Ideal)) (x4 : (⟨S16x64, .f32⟩ : BufTy).Contents (Elt Ideal)) (x5 : (⟨S1024x16x64, .f32⟩ : BufTy).Contents (Elt Ideal)) (x6 : (⟨S16x64, .f32⟩ : BufTy).Contents (Elt Ideal)) (x7 : (⟨S1024x16x64, .f32⟩ : BufTy).Contents (Elt Ideal)) (x8 : (⟨S16x64, .f32⟩ : BufTy).Contents (Elt Ideal)) (x9 : (⟨S16x64x1024, .f32⟩ : BufTy).Contents (Elt Ideal)) (x10 : (⟨S1024, .f32⟩ : BufTy).Contents (Elt Ideal)) (x11 : (⟨S1024, .f32⟩ : BufTy).Contents (Elt Ideal)) (x12 : (⟨S1024, .f32⟩ : BufTy).Contents (Elt Ideal)) (x13 : (⟨S1024x4096, .f32⟩ : BufTy).Contents (Elt Ideal)) (x14 : (⟨S4096, .f32⟩ : BufTy).Contents (Elt Ideal)) (x15 : (⟨S4096x1024, .f32⟩ : BufTy).Contents (Elt Ideal)) (x16 : (⟨S1024, .f32⟩ : BufTy).Contents (Elt Ideal)) (x17 : (⟨S1024, .f32⟩ : BufTy).Contents (Elt Ideal)) (x18 : (⟨S1024, .f32⟩ : BufTy).Contents (Elt Ideal))

/-- The reference's result at an entry, in the form the kernel computes it. -/
theorem result_corr (h0 : ∀ i, IsReal (x0 i)) (h1 : ∀ i, IsReal (x1 i)) (h3 : ∀ i, IsReal (x3 i)) (h4 : ∀ i, IsReal (x4 i)) (h5 : ∀ i, IsReal (x5 i)) (h6 : ∀ i, IsReal (x6 i)) (h9 : ∀ i, IsReal (x9 i)) (B : Fin 4) (l : Fin 2048) (o : Fin 1024) :
    val_main_v175 (F := Ideal) x0 x1 x2 x3 x4 x5 x6 x7 x8 x9 x10 x11 x12 x13 x14 x15 x16 x17 x18 (ix3 B l o) = block corrRow x0 x1 x2 x3 x4 x5 x6 x7 x8 x9 x10 x11 x12 x13 x14 x15 x16 x17 x18 B l o :=
  (result_at x0 x1 x2 x3 x4 x5 x6 x7 x8 x9 x10 x11 x12 x13 x14 x15 x16 x17 x18 (measures_ne_bot _ _ (IsReal.headsOf h0 h3 h4) (IsReal.headsOf h1 h5 h6)) B l o).trans
    (block_eq x0 x1 x2 x3 x4 x5 x6 x7 x8 x9 x10 x11 x12 x13 x14 x15 x16 x17 x18 h0 h1 h3 h4 h5 h6 h9 B l o).symm

end Cert.ReferenceIdeal.Read

end
-- ==== Proof.Finite.lean ====
/- What the precondition says at an entry: what the queries and the keys are formed from is real, and
   so is the output projection. -/
module

public import proofs.«01_k».proof.Pre_finite
public import proofs.«01_k».proof.Proof.Real

@[expose] public section

noncomputable section

namespace Cert.Pre_finite

open Idealize.ShloMosaic Cert.Spec

/-- The shapes the precondition broadcasts between. -/
theorem facts : Facts := ⟨by decide, by decide, by decide, by decide⟩

/-- An absolute value below infinity is that of a real number. -/
theorem real_of_bit (x : EReal) (h : Ideal.cmp .olt (max x (-x)) (Ideal.ofBits FTy.f32 0x7F800000#32) = 1#1) : IsReal x := by
  have e : Ideal.ofBits FTy.f32 0x7F800000#32 = ⊤ := by simp [Ideal.ofBits, Ideal.ieee]
  rw [e] at h
  have hb : ∀ b : Bool, BitVec.ofBool b = 1#1 → b = true := by decide
  have hl : max x (-x) < ⊤ := of_decide_eq_true (hb _ h)
  obtain ⟨h1, h2⟩ := max_lt_iff.1 hl
  have h3 : x ≠ ⊥ := fun e => by
    rw [e] at h2
    exact absurd h2 (by simp)
  exact ⟨_, (EReal.coe_toReal h1.ne h3).symm⟩

/-- An array whose every absolute value compares below infinity holds real numbers. -/
theorem real_of_mask {s : Shape} (x : FVec Ideal s .f32) (hb : S_.BroadcastsInDim s (![] : Fin 0 → Fin s.rank))
    (h : cmpf .olt (Host.absf x) (broadcastInDim s ![] hb (constant S_ .f32 0x7F800000#32)) = fun _ => 1#1) (i : s.Idx) : IsReal (x i) :=
  real_of_bit (x i) (congrFun h i)

variable [Facts]

/-- Every entry of the query input is real. -/
theorem real0 (x0 : FVec Ideal S4x2048x1024 .f32) (x1 : FVec Ideal S4x2048x1024 .f32) (x2 : FVec Ideal S4x2048x1024 .f32) (x3 : FVec Ideal S1024x16x64 .f32) (x4 : FVec Ideal S16x64 .f32) (x5 : FVec Ideal S1024x16x64 .f32) (x6 : FVec Ideal S16x64 .f32) (x7 : FVec Ideal S1024x16x64 .f32) (x8 : FVec Ideal S16x64 .f32) (x9 : FVec Ideal S16x64x1024 .f32) (x10 : FVec Ideal S1024 .f32) (x11 : FVec Ideal S1024 .f32) (x12 : FVec Ideal S1024 .f32) (x13 : FVec Ideal S1024x4096 .f32) (x14 : FVec Ideal S4096 .f32) (x15 : FVec Ideal S4096x1024 .f32) (x16 : FVec Ideal S1024 .f32) (x17 : FVec Ideal S1024 .f32) (x18 : FVec Ideal S1024 .f32)
    (h : (fn (F := Ideal) x0 x1 x2 x3 x4 x5 x6 x7 x8 x9 x10 x11 x12 x13 x14 x15 x16 x17 x18).1 = fun _ => 1#1) (i : S4x2048x1024.Idx) : IsReal (x0 i) :=
  real_of_mask x0 _ h i

/-- Every entry of the key input is real. -/
theorem real1 (x0 : FVec Ideal S4x2048x1024 .f32) (x1 : FVec Ideal S4x2048x1024 .f32) (x2 : FVec Ideal S4x2048x1024 .f32) (x3 : FVec Ideal S1024x16x64 .f32) (x4 : FVec Ideal S16x64 .f32) (x5 : FVec Ideal S1024x16x64 .f32) (x6 : FVec Ideal S16x64 .f32) (x7 : FVec Ideal S1024x16x64 .f32) (x8 : FVec Ideal S16x64 .f32) (x9 : FVec Ideal S16x64x1024 .f32) (x10 : FVec Ideal S1024 .f32) (x11 : FVec Ideal S1024 .f32) (x12 : FVec Ideal S1024 .f32) (x13 : FVec Ideal S1024x4096 .f32) (x14 : FVec Ideal S4096 .f32) (x15 : FVec Ideal S4096x1024 .f32) (x16 : FVec Ideal S1024 .f32) (x17 : FVec Ideal S1024 .f32) (x18 : FVec Ideal S1024 .f32)
    (h : (fn (F := Ideal) x0 x1 x2 x3 x4 x5 x6 x7 x8 x9 x10 x11 x12 x13 x14 x15 x16 x17 x18).2.1 = fun _ => 1#1) (i : S4x2048x1024.Idx) : IsReal (x1 i) :=
  real_of_mask x1 _ h i

/-- Every entry of the query projection is real. -/
theorem real3 (x0 : FVec Ideal S4x2048x1024 .f32) (x1 : FVec Ideal S4x2048x1024 .f32) (x2 : FVec Ideal S4x2048x1024 .f32) (x3 : FVec Ideal S1024x16x64 .f32) (x4 : FVec Ideal S16x64 .f32) (x5 : FVec Ideal S1024x16x64 .f32) (x6 : FVec Ideal S16x64 .f32) (x7 : FVec Ideal S1024x16x64 .f32) (x8 : FVec Ideal S16x64 .f32) (x9 : FVec Ideal S16x64x1024 .f32) (x10 : FVec Ideal S1024 .f32) (x11 : FVec Ideal S1024 .f32) (x12 : FVec Ideal S1024 .f32) (x13 : FVec Ideal S1024x4096 .f32) (x14 : FVec Ideal S4096 .f32) (x15 : FVec Ideal S4096x1024 .f32) (x16 : FVec Ideal S1024 .f32) (x17 : FVec Ideal S1024 .f32) (x18 : FVec Ideal S1024 .f32)
    (h : (fn (F := Ideal) x0 x1 x2 x3 x4 x5 x6 x7 x8 x9 x10 x11 x12 x13 x14 x15 x16 x17 x18).2.2.1 = fun _ => 1#1) (i : S1024x16x64.Idx) : IsReal (x3 i) :=
  real_of_mask x3 _ h i

/-- Every entry of the query projection's bias is real. -/
theorem real4 (x0 : FVec Ideal S4x2048x1024 .f32) (x1 : FVec Ideal S4x2048x1024 .f32) (x2 : FVec Ideal S4x2048x1024 .f32) (x3 : FVec Ideal S1024x16x64 .f32) (x4 : FVec Ideal S16x64 .f32) (x5 : FVec Ideal S1024x16x64 .f32) (x6 : FVec Ideal S16x64 .f32) (x7 : FVec Ideal S1024x16x64 .f32) (x8 : FVec Ideal S16x64 .f32) (x9 : FVec Ideal S16x64x1024 .f32) (x10 : FVec Ideal S1024 .f32) (x11 : FVec Ideal S1024 .f32) (x12 : FVec Ideal S1024 .f32) (x13 : FVec Ideal S1024x4096 .f32) (x14 : FVec Ideal S4096 .f32) (x15 : FVec Ideal S4096x1024 .f32) (x16 : FVec Ideal S1024 .f32) (x17 : FVec Ideal S1024 .f32) (x18 : FVec Ideal S1024 .f32)
    (h : (fn (F := Ideal) x0 x1 x2 x3 x4 x5 x6 x7 x8 x9 x10 x11 x12 x13 x14 x15 x16 x17 x18).2.2.2.1 = fun _ => 1#1) (i : S16x64.Idx) : IsReal (x4 i) :=
  real_of_mask x4 _ h i

/-- Every entry of the key projection is real. -/
theorem real5 (x0 : FVec Ideal S4x2048x1024 .f32) (x1 : FVec Ideal S4x2048x1024 .f32) (x2 : FVec Ideal S4x2048x1024 .f32) (x3 : FVec Ideal S1024x16x64 .f32) (x4 : FVec Ideal S16x64 .f32) (x5 : FVec Ideal S1024x16x64 .f32) (x6 : FVec Ideal S16x64 .f32) (x7 : FVec Ideal S1024x16x64 .f32) (x8 : FVec Ideal S16x64 .f32) (x9 : FVec Ideal S16x64x1024 .f32) (x10 : FVec Ideal S1024 .f32) (x11 : FVec Ideal S1024 .f32) (x12 : FVec Ideal S1024 .f32) (x13 : FVec Ideal S1024x4096 .f32) (x14 : FVec Ideal S4096 .f32) (x15 : FVec Ideal S4096x1024 .f32) (x16 : FVec Ideal S1024 .f32) (x17 : FVec Ideal S1024 .f32) (x18 : FVec Ideal S1024 .f32)
    (h : (fn (F := Ideal) x0 x1 x2 x3 x4 x5 x6 x7 x8 x9 x10 x11 x12 x13 x14 x15 x16 x17 x18).2.2.2.2.1 = fun _ => 1#1) (i : S1024x16x64.Idx) : IsReal (x5 i) :=
  real_of_mask x5 _ h i

/-- Every entry of the key projection's bias is real. -/
theorem real6 (x0 : FVec Ideal S4x2048x1024 .f32) (x1 : FVec Ideal S4x2048x1024 .f32) (x2 : FVec Ideal S4x2048x1024 .f32) (x3 : FVec Ideal S1024x16x64 .f32) (x4 : FVec Ideal S16x64 .f32) (x5 : FVec Ideal S1024x16x64 .f32) (x6 : FVec Ideal S16x64 .f32) (x7 : FVec Ideal S1024x16x64 .f32) (x8 : FVec Ideal S16x64 .f32) (x9 : FVec Ideal S16x64x1024 .f32) (x10 : FVec Ideal S1024 .f32) (x11 : FVec Ideal S1024 .f32) (x12 : FVec Ideal S1024 .f32) (x13 : FVec Ideal S1024x4096 .f32) (x14 : FVec Ideal S4096 .f32) (x15 : FVec Ideal S4096x1024 .f32) (x16 : FVec Ideal S1024 .f32) (x17 : FVec Ideal S1024 .f32) (x18 : FVec Ideal S1024 .f32)
    (h : (fn (F := Ideal) x0 x1 x2 x3 x4 x5 x6 x7 x8 x9 x10 x11 x12 x13 x14 x15 x16 x17 x18).2.2.2.2.2.1 = fun _ => 1#1) (i : S16x64.Idx) : IsReal (x6 i) :=
  real_of_mask x6 _ h i

/-- Every entry of the output projection is real. -/
theorem real9 (x0 : FVec Ideal S4x2048x1024 .f32) (x1 : FVec Ideal S4x2048x1024 .f32) (x2 : FVec Ideal S4x2048x1024 .f32) (x3 : FVec Ideal S1024x16x64 .f32) (x4 : FVec Ideal S16x64 .f32) (x5 : FVec Ideal S1024x16x64 .f32) (x6 : FVec Ideal S16x64 .f32) (x7 : FVec Ideal S1024x16x64 .f32) (x8 : FVec Ideal S16x64 .f32) (x9 : FVec Ideal S16x64x1024 .f32) (x10 : FVec Ideal S1024 .f32) (x11 : FVec Ideal S1024 .f32) (x12 : FVec Ideal S1024 .f32) (x13 : FVec Ideal S1024x4096 .f32) (x14 : FVec Ideal S4096 .f32) (x15 : FVec Ideal S4096x1024 .f32) (x16 : FVec Ideal S1024 .f32) (x17 : FVec Ideal S1024 .f32) (x18 : FVec Ideal S1024 .f32)
    (h : (fn (F := Ideal) x0 x1 x2 x3 x4 x5 x6 x7 x8 x9 x10 x11 x12 x13 x14 x15 x16 x17 x18).2.2.2.2.2.2 = fun _ => 1#1) (i : S16x64x1024.Idx) : IsReal (x9 i) :=
  real_of_mask x9 _ h i

end Cert.Pre_finite

end
-- ==== Proof.lean ====
/- The proof of the whole claim: the three programs leave their arguments unchanged and end, and the kernel's
   result is the reference's, entry by entry, where what forms the queries and the keys is finite, and so is the output projection. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init
public import proofs.«01_k».proof.Proof.KernelRun
public import proofs.«01_k».proof.Proof.KernelValue
public import proofs.«01_k».proof.Proof.Meet
public import proofs.«01_k».proof.Proof.Finite

@[expose] public section

noncomputable section

namespace Cert.Proof

open Idealize.ShloMosaic Idealize.ShloMosaic.TcCoe Idealize.ShloMosaic.StableHlo Idealize.SL.Sem Cert.Kernel

/-- The reference runs, leaves its arguments unchanged and ends with every counter at zero. -/
theorem frame_reference : Cert.quiescent_ReferenceIdeal := by
  intro m ρ _
  exact (θ_run Cert.ReferenceIdeal.defs _ _).mono
    (fun r h => ⟨fun c => (h c).2, sem_eq_zero_of_no_sems (by decide) r.2⟩)
    (Cert.ReferenceIdeal.Value.run (F := Ideal) m ρ)

/-- Under the precondition the reference's result is the kernel's. -/
theorem values_meet (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal_finite (hPre_finite := Cert.Pre_finite.facts) m)
    (hargs : ∀ c : Dev Cert.KernelIdeal.nD, m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) (c : Dev Cert.KernelIdeal.nD) :
    Cert.ReferenceIdeal.Read.val_main_v175 (F := Ideal)
      (launchContents m' c (Proc.devRef .tc Cert.ReferenceIdeal.main_arg0))
      (launchContents m' c (Proc.devRef .tc Cert.ReferenceIdeal.main_arg1))
      (launchContents m' c (Proc.devRef .tc Cert.ReferenceIdeal.main_arg2))
      (launchContents m' c (Proc.devRef .tc Cert.ReferenceIdeal.main_arg3))
      (launchContents m' c (Proc.devRef .tc Cert.ReferenceIdeal.main_arg4))
      (launchContents m' c (Proc.devRef .tc Cert.ReferenceIdeal.main_arg5))
      (launchContents m' c (Proc.devRef .tc Cert.ReferenceIdeal.main_arg6))
      (launchContents m' c (Proc.devRef .tc Cert.ReferenceIdeal.main_arg7))
      (launchContents m' c (Proc.devRef .tc Cert.ReferenceIdeal.main_arg8))
      (launchContents m' c (Proc.devRef .tc Cert.ReferenceIdeal.main_arg9))
      (launchContents m' c (Proc.devRef .tc Cert.ReferenceIdeal.main_arg10))
      (launchContents m' c (Proc.devRef .tc Cert.ReferenceIdeal.main_arg11))
      (launchContents m' c (Proc.devRef .tc Cert.ReferenceIdeal.main_arg12))
      (launchContents m' c (Proc.devRef .tc Cert.ReferenceIdeal.main_arg13))
      (launchContents m' c (Proc.devRef .tc Cert.ReferenceIdeal.main_arg14))
      (launchContents m' c (Proc.devRef .tc Cert.ReferenceIdeal.main_arg15))
      (launchContents m' c (Proc.devRef .tc Cert.ReferenceIdeal.main_arg16))
      (launchContents m' c (Proc.devRef .tc Cert.ReferenceIdeal.main_arg17))
      (launchContents m' c (Proc.devRef .tc Cert.ReferenceIdeal.main_arg18))
      = Cert.KernelIdeal.Gen.W10 m g c (Proc.devRef .tc Cert.KernelIdeal.main_v32) := by
  letI := Cert.Pre_finite.facts
  refine Eq.trans
    (congr (congr (congr (congr (congr (congr (congr (congr (congr (congr (congr (congr (congr (congr (congr (congr (congr (congr (congrArg (Cert.ReferenceIdeal.Read.val_main_v175 (F := Ideal)) (hargs c).1) (hargs c).2.1) (hargs c).2.2.1) (hargs c).2.2.2.1) (hargs c).2.2.2.2.1) (hargs c).2.2.2.2.2.1) (hargs c).2.2.2.2.2.2.1) (hargs c).2.2.2.2.2.2.2.1) (hargs c).2.2.2.2.2.2.2.2.1) (hargs c).2.2.2.2.2.2.2.2.2.1) (hargs c).2.2.2.2.2.2.2.2.2.2.1) (hargs c).2.2.2.2.2.2.2.2.2.2.2.1) (hargs c).2.2.2.2.2.2.2.2.2.2.2.2.1) (hargs c).2.2.2.2.2.2.2.2.2.2.2.2.2.1) (hargs c).2.2.2.2.2.2.2.2.2.2.2.2.2.2.1) (hargs c).2.2.2.2.2.2.2.2.2.2.2.2.2.2.2.1) (hargs c).2.2.2.2.2.2.2.2.2.2.2.2.2.2.2.2.1) (hargs c).2.2.2.2.2.2.2.2.2.2.2.2.2.2.2.2.2.1) (hargs c).2.2.2.2.2.2.2.2.2.2.2.2.2.2.2.2.2.2) ?_
  funext i
  obtain ⟨B, l, o, rfl⟩ : ∃ (B : Fin 4) (l : Fin 2048) (o : Fin 1024), i = ix3 B l o := ⟨i 0, i 1, i 2, eq_ix3 i⟩
  exact (Cert.ReferenceIdeal.Read.result_corr
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (Cert.Pre_finite.real0 (h := (hpre c).1))
      (Cert.Pre_finite.real1 (h := (hpre c).2.1))
      (Cert.Pre_finite.real3 (h := (hpre c).2.2.1))
      (Cert.Pre_finite.real4 (h := (hpre c).2.2.2.1))
      (Cert.Pre_finite.real5 (h := (hpre c).2.2.2.2.1))
      (Cert.Pre_finite.real6 (h := (hpre c).2.2.2.2.2.1))
      (Cert.Pre_finite.real9 (h := (hpre c).2.2.2.2.2.2))
      B l o).trans (Cert.KernelIdeal.Value.result_at m g c B l o).symm

/-- Under the precondition the kernel and the reference end with the same result. -/
theorem algebraic : Cert.algebraic_KernelIdeal_ReferenceIdeal_pre_finite (hPre_finite := Cert.Pre_finite.facts) := by
  intro m g m' g' hpre hargs
  refine ⟨fun c => Cert.KernelIdeal.Gen.W10 m g c (Proc.devRef .tc Cert.KernelIdeal.main_v32), Cert.KernelIdeal.Gen.run_result m g, ?_⟩
  exact (θ_run Cert.ReferenceIdeal.defs _ _).mono
    (fun r h c => ⟨((h c).1.trans (Cert.ReferenceIdeal.Read.val_main_v175_eq (launchContents m' c))).trans
      (values_meet m g m' hpre hargs c), (h c).2⟩)
    (Cert.ReferenceIdeal.Value.run (F := Ideal) m' g')

/-- The whole claim. -/
theorem claim : Cert.Claim :=
  ⟨Cert.Kernel.Gen.facts, Cert.KernelIdeal.Gen.facts, Cert.ReferenceIdeal.Gen.facts, Cert.Pre_finite.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, algebraic⟩

end Cert.Proof

end
